-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v14)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v60) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v49) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S8192x2048 : Shape := ⟨2, ![8192, 2048]⟩
abbrev S2x4x4x128x128 : Shape := ⟨5, ![2, 4, 4, 128, 128]⟩
abbrev S4x4x2048x128 : Shape := ⟨4, ![4, 4, 2048, 128]⟩
abbrev S3x4x4x2048x4 : Shape := ⟨5, ![3, 4, 4, 2048, 4]⟩
abbrev S4x4x32x2048 : Shape := ⟨4, ![4, 4, 32, 2048]⟩
abbrev S128x512 : Shape := ⟨2, ![128, 512]⟩
abbrev S1x1x1x128x128 : Shape := ⟨5, ![1, 1, 1, 128, 128]⟩
abbrev S1x4x128x128 : Shape := ⟨4, ![1, 4, 128, 128]⟩
abbrev S1x1x1x128x4 : Shape := ⟨5, ![1, 1, 1, 128, 4]⟩
abbrev S1x1x32x128 : Shape := ⟨4, ![1, 1, 32, 128]⟩
abbrev S128x128 : Shape := ⟨2, ![128, 128]⟩
abbrev S512x128 : Shape := ⟨2, ![512, 128]⟩
abbrev S1x1x128x128 : Shape := ⟨4, ![1, 1, 128, 128]⟩
abbrev S512 : Shape := ⟨1, ![512]⟩
abbrev S512x1 : Shape := ⟨2, ![512, 1]⟩
abbrev S128x4 : Shape := ⟨2, ![128, 4]⟩
abbrev S128x1 : Shape := ⟨2, ![128, 1]⟩
abbrev S32x128 : Shape := ⟨2, ![32, 128]⟩
abbrev S1x128 : Shape := ⟨2, ![1, 128]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2x4x4x128x128, .f32⟩
  | .hbm, ⟨2, _⟩ => ⟨S4x4x2048x128, .f32⟩
  | .hbm, ⟨3, _⟩ => ⟨S3x4x4x2048x4, .f32⟩
  | .hbm, ⟨4, _⟩ => ⟨S8192x2048, .f32⟩
  | .hbm, ⟨5, _⟩ => ⟨S4x4x32x2048, .f32⟩
  | .local _ .vmem, ⟨0, _⟩ => ⟨S128x512, .bf16⟩
  | .local _ .vmem, ⟨1, _⟩ => ⟨S128x512, .bf16⟩
  | .local _ .vmem, ⟨2, _⟩ => ⟨S1x1x1x128x128, .f32⟩
  | .local _ .vmem, ⟨3, _⟩ => ⟨S1x1x1x128x128, .f32⟩
  | .local _ .vmem, ⟨4, _⟩ => ⟨S1x1x1x128x128, .f32⟩
  | .local _ .vmem, ⟨5, _⟩ => ⟨S1x1x1x128x128, .f32⟩
  | .local _ .vmem, ⟨6, _⟩ => ⟨S1x4x128x128, .f32⟩
  | .local _ .vmem, ⟨7, _⟩ => ⟨S1x4x128x128, .f32⟩
  | .local _ .vmem, ⟨8, _⟩ => ⟨S1x1x1x128x4, .f32⟩
  | .local _ .vmem, ⟨9, _⟩ => ⟨S1x1x1x128x4, .f32⟩
  | .local _ .vmem, ⟨10, _⟩ => ⟨S128x512, .f32⟩
  | .local _ .vmem, ⟨11, _⟩ => ⟨S128x512, .f32⟩
  | .local _ .vmem, ⟨12, _⟩ => ⟨S1x1x32x128, .f32⟩
  | .local _ .vmem, ⟨13, _⟩ => ⟨S1x1x32x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, arg2.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1x1x128x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S2x4x4x128x128 : Shape := ⟨5, ![2, 4, 4, 128, 128]⟩
abbrev S4x4x2048x128 : Shape := ⟨4, ![4, 4, 2048, 128]⟩
abbrev S3x4x4x2048x4 : Shape := ⟨5, ![3, 4, 4, 2048, 4]⟩
abbrev S1x4x4x128x128 : Shape := ⟨5, ![1, 4, 4, 128, 128]⟩
abbrev S4x4x128x128 : Shape := ⟨4, ![4, 4, 128, 128]⟩
abbrev S4x128x4x128 : Shape := ⟨4, ![4, 128, 4, 128]⟩
abbrev S4x127x4x128 : Shape := ⟨4, ![4, 127, 4, 128]⟩
abbrev S4x2048x4x4x128 : Shape := ⟨5, ![4, 2048, 4, 4, 128]⟩
abbrev S1x4x4x2048x4 : Shape := ⟨5, ![1, 4, 4, 2048, 4]⟩
abbrev S4x4x2048x4 : Shape := ⟨4, ![4, 4, 2048, 4]⟩
abbrev S4x2048x4x4 : Shape := ⟨4, ![4, 2048, 4, 4]⟩
abbrev S2048 : Shape := ⟨1, ![2048]⟩
abbrev S127 : Shape := ⟨1, ![127]⟩
abbrev S_ : Shape := ⟨0, ![]⟩
abbrev S2048x1 : Shape := ⟨2, ![2048, 1]⟩
abbrev S1x127 : Shape := ⟨2, ![1, 127]⟩
abbrev S2048x127 : Shape := ⟨2, ![2048, 127]⟩
abbrev S4x4x127x2048x4 : Shape := ⟨5, ![4, 4, 127, 2048, 4]⟩
abbrev S4x2048x4x4x127 : Shape := ⟨5, ![4, 2048, 4, 4, 127]⟩
abbrev S4x4x2048x127 : Shape := ⟨4, ![4, 4, 2048, 127]⟩
abbrev S2048x4x4x127 : Shape := ⟨4, ![2048, 4, 4, 127]⟩
abbrev S1x2048x4x4x127 : Shape := ⟨5, ![1, 2048, 4, 4, 127]⟩
abbrev S1x2048x1x1x127 : Shape := ⟨5, ![1, 2048, 1, 1, 127]⟩
abbrev S4x2048x4x4x1 : Shape := ⟨5, ![4, 2048, 4, 4, 1]⟩
abbrev S4x4x128x2048x4 : Shape := ⟨5, ![4, 4, 128, 2048, 4]⟩
abbrev S32 : Shape := ⟨1, ![32]⟩
abbrev S127x1 : Shape := ⟨2, ![127, 1]⟩
abbrev S1x32 : Shape := ⟨2, ![1, 32]⟩
abbrev S127x32 : Shape := ⟨2, ![127, 32]⟩
abbrev S4x2048x4x127 : Shape := ⟨4, ![4, 2048, 4, 127]⟩
abbrev S4x2048x4x32 : Shape := ⟨4, ![4, 2048, 4, 32]⟩
abbrev S2048x32 : Shape := ⟨2, ![2048, 32]⟩
abbrev S1x2048x1x32 : Shape := ⟨4, ![1, 2048, 1, 32]⟩
abbrev S4x2048x4x16 : Shape := ⟨4, ![4, 2048, 4, 16]⟩
abbrev S4x2048x4x16x1 : Shape := ⟨5, ![4, 2048, 4, 16, 1]⟩
abbrev S1x1x1x1x32 : Shape := ⟨5, ![1, 1, 1, 1, 32]⟩
abbrev S4x2048x4x16x32 : Shape := ⟨5, ![4, 2048, 4, 16, 32]⟩
abbrev S4x4x32x2048 : Shape := ⟨4, ![4, 4, 32, 2048]⟩

abbrev nBuf : Space → Nat
  | .hbm => 160
  | .vmem => 0
  | .smem => 0
  | _ => 0

abbrev hbmTy0_0 (i : Nat) : BufTy := match i % 128 with
  | 0 => ⟨S8192x2048, .bf16⟩
  | 1 => ⟨S2x4x4x128x128, .f32⟩
  | 2 => ⟨S4x4x2048x128, .f32⟩
  | 3 => ⟨S3x4x4x2048x4, .f32⟩
  | 4 => ⟨S1x4x4x128x128, .f32⟩
  | 5 => ⟨S4x4x128x128, .f32⟩
  | 6 => ⟨S4x128x4x128, .f32⟩
  | 7 => ⟨S4x127x4x128, .f32⟩
  | 8 => ⟨S1x4x4x128x128, .f32⟩
  | 9 => ⟨S4x4x128x128, .f32⟩
  | 10 => ⟨S4x128x4x128, .f32⟩
  | 11 => ⟨S4x127x4x128, .f32⟩
  | 12 => ⟨S8192x2048, .f32⟩
  | 13 => ⟨S4x2048x4x4x128, .f32⟩
  | 14 => ⟨S1x4x4x2048x4, .f32⟩
  | 15 => ⟨S4x4x2048x4, .f32⟩
  | 16 => ⟨S4x2048x4x4, .f32⟩
  | 17 => ⟨S2048, .i32⟩
  | 18 => ⟨S127, .i32⟩
  | 19 => ⟨S_, .i32⟩
  | 20 => ⟨S127, .i32⟩
  | 21 => ⟨S127, .i32⟩
  | 22 => ⟨S_, .i32⟩
  | 23 => ⟨S127, .i32⟩
  | 24 => ⟨S127, .i32⟩
  | 25 => ⟨S2048x1, .i32⟩
  | 26 => ⟨S1x127, .i32⟩
  | 27 => ⟨S2048x127, .i32⟩
  | 28 => ⟨S2048x127, .i32⟩
  | 29 => ⟨S2048x127, .i32⟩
  | 30 => ⟨S4x4x127x2048x4, .f32⟩
  | 31 => ⟨S4x2048x4x4x127, .f32⟩
  | 32 => ⟨S4x4x2048x127, .f32⟩
  | 33 => ⟨S2048x4x4x127, .f32⟩
  | 34 => ⟨S1x2048x4x4x127, .f32⟩
  | 35 => ⟨S4x2048x4x4x127, .f32⟩
  | 36 => ⟨S4x2048x4x4x127, .f32⟩
  | 37 => ⟨S_, .i32⟩
  | 38 => ⟨S2048x127, .i32⟩
  | 39 => ⟨S2048x127, .i1⟩
  | 40 => ⟨S1x2048x1x1x127, .i1⟩
  | 41 => ⟨S_, .f32⟩
  | 42 => ⟨S_, .f32⟩
  | 43 => ⟨S4x2048x4x4x127, .i1⟩
  | 44 => ⟨S4x2048x4x4x127, .f32⟩
  | 45 => ⟨S4x2048x4x4x127, .f32⟩
  | 46 => ⟨S_, .f32⟩
  | 47 => ⟨S4x2048x4x4, .f32⟩
  | 48 => ⟨S_, .f32⟩
  | 49 => ⟨S4x2048x4x4, .f32⟩
  | 50 => ⟨S4x2048x4x4, .f32⟩
  | 51 => ⟨S4x2048x4x4x1, .f32⟩
  | 52 => ⟨S4x2048x4x4x127, .f32⟩
  | 53 => ⟨S4x2048x4x4x127, .f32⟩
  | 54 => ⟨S4x2048x4x4x127, .f32⟩
  | 55 => ⟨S_, .f32⟩
  | 56 => ⟨S4x2048x4x4, .f32⟩
  | 57 => ⟨S4x2048x4x4x1, .f32⟩
  | 58 => ⟨S4x2048x4x4x127, .f32⟩
  | 59 => ⟨S4x2048x4x4x127, .f32⟩
  | 60 => ⟨S1x2048x1x1x127, .f32⟩
  | 61 => ⟨S4x2048x4x4x127, .f32⟩
  | 62 => ⟨S4x2048x4x4x127, .f32⟩
  | 63 => ⟨S4x4x128x2048x4, .f32⟩
  | 64 => ⟨S4x2048x4x4x128, .f32⟩
  | 65 => ⟨S4x2048x4x4x1, .f32⟩
  | 66 => ⟨S4x2048x4x4x128, .f32⟩
  | 67 => ⟨S4x2048x4x4x128, .f32⟩
  | 68 => ⟨S8192x2048, .f32⟩
  | 69 => ⟨S32, .i32⟩
  | 70 => ⟨S_, .i32⟩
  | 71 => ⟨S32, .i32⟩
  | 72 => ⟨S32, .i32⟩
  | 73 => ⟨S127x1, .i32⟩
  | 74 => ⟨S1x32, .i32⟩
  | 75 => ⟨S_, .i32⟩
  | 76 => ⟨S1x32, .i32⟩
  | 77 => ⟨S1x32, .i32⟩
  | 78 => ⟨S127x32, .i32⟩
  | 79 => ⟨S127x32, .i32⟩
  | 80 => ⟨S127x32, .i1⟩
  | 81 => ⟨S127x1, .i32⟩
  | 82 => ⟨S_, .i32⟩
  | 83 => ⟨S127x1, .i32⟩
  | 84 => ⟨S127x1, .i32⟩
  | 85 => ⟨S1x32, .i32⟩
  | 86 => ⟨S127x32, .i32⟩
  | 87 => ⟨S127x32, .i32⟩
  | 88 => ⟨S127x32, .i1⟩
  | 89 => ⟨S127x32, .i1⟩
  | 90 => ⟨S127x32, .f32⟩
  | 91 => ⟨S_, .f32⟩
  | 92 => ⟨S4x2048x4x127, .f32⟩
  | 93 => ⟨S4x2048x4x32, .f32⟩
  | 94 => ⟨S32, .i32⟩
  | 95 => ⟨S_, .i32⟩
  | 96 => ⟨S_, .i32⟩
  | 97 => ⟨S2048, .i32⟩
  | 98 => ⟨S2048, .i32⟩
  | 99 => ⟨S2048, .i32⟩
  | 100 => ⟨S_, .i32⟩
  | 101 => ⟨S2048, .i32⟩
  | 102 => ⟨S2048, .i1⟩
  | 103 => ⟨S2048, .i32⟩
  | 104 => ⟨S2048, .i32⟩
  | 105 => ⟨S_, .i32⟩
  | 106 => ⟨S2048, .i32⟩
  | 107 => ⟨S2048, .i1⟩
  | 108 => ⟨S2048, .i1⟩
  | 109 => ⟨S_, .i32⟩
  | 110 => ⟨S2048, .i32⟩
  | 111 => ⟨S2048, .i32⟩
  | 112 => ⟨S2048, .i32⟩
  | 113 => ⟨S2048x1, .i32⟩
  | 114 => ⟨S1x32, .i32⟩
  | 115 => ⟨S_, .i32⟩
  | 116 => ⟨S1x32, .i32⟩
  | 117 => ⟨S1x32, .i1⟩
  | 118 => ⟨S1x32, .i32⟩
  | 119 => ⟨S2048x32, .i32⟩
  | 120 => ⟨S2048x32, .i32⟩
  | 121 => ⟨S2048x32, .i1⟩
  | 122 => ⟨S2048x32, .i1⟩
  | 123 => ⟨S2048x32, .i1⟩
  | 124 => ⟨S1x32, .i32⟩
  | 125 => ⟨S_, .i32⟩
  | 126 => ⟨S2048x1, .i32⟩
  | 127 => ⟨S2048x1, .i32⟩
  | _ => ⟨S8192x2048, .bf16⟩

abbrev hbmTy0_1 (i : Nat) : BufTy := match i % 128 with
  | 0 => ⟨S2048x32, .i32⟩
  | 1 => ⟨S2048x32, .i32⟩
  | 2 => ⟨S2048x32, .i1⟩
  | 3 => ⟨S2048x32, .i1⟩
  | 4 => ⟨S1x32, .i32⟩
  | 5 => ⟨S2048x1, .i32⟩
  | 6 => ⟨S2048x32, .i32⟩
  | 7 => ⟨S2048x32, .i32⟩
  | 8 => ⟨S2048x32, .i1⟩
  | 9 => ⟨S1x2048x1x32, .i1⟩
  | 10 => ⟨S1x2048x1x32, .i1⟩
  | 11 => ⟨S_, .f32⟩
  | 12 => ⟨S_, .f32⟩
  | 13 => ⟨S4x2048x4x32, .i1⟩
  | 14 => ⟨S4x2048x4x32, .f32⟩
  | 15 => ⟨S4x2048x4x32, .f32⟩
  | 16 => ⟨S_, .f32⟩
  | 17 => ⟨S_, .f32⟩
  | 18 => ⟨S4x2048x4x32, .i1⟩
  | 19 => ⟨S4x2048x4x32, .f32⟩
  | 20 => ⟨S4x2048x4x32, .f32⟩
  | 21 => ⟨S4x2048x4x16, .f32⟩
  | 22 => ⟨S4x2048x4x16, .i32⟩
  | 23 => ⟨S4x2048x4x16x1, .i32⟩
  | 24 => ⟨S1x1x1x1x32, .i32⟩
  | 25 => ⟨S4x2048x4x16x32, .i32⟩
  | 26 => ⟨S4x2048x4x16x32, .i32⟩
  | 27 => ⟨S4x2048x4x16x32, .i1⟩
  | 28 => ⟨S_, .i1⟩
  | 29 => ⟨S4x2048x4x32, .i1⟩
  | 30 => ⟨S4x2048x4x32, .f32⟩
  | 31 => ⟨S4x4x32x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_5 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_8 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_9 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_c : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_0 : Ref sig .tc := ⟨.hbm, 109, rfl⟩
abbrev main_call1_v12 : Ref sig .tc := ⟨.hbm, 110, rfl⟩
abbrev main_call1_v13 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_10 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_11 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_12 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_v102 : Ref sig .tc := ⟨.hbm, 143, rfl⟩
abbrev main_cst_13 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_v103 : Ref sig .tc := ⟨.hbm, 148, rfl⟩
abbrev main_values : Ref sig .tc := ⟨.hbm, 149, rfl⟩
abbrev main_indices : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_c_14 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S1x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel2Ideal.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S1x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048x8192, .f32⟩
  | .hbm, ⟨21, _⟩ => ⟨S2048x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S1x8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2x2048x12352 : Shape := ⟨3, ![2, 2048, 12352]⟩
abbrev S2x2048x12288 : Shape := ⟨3, ![2, 2048, 12288]⟩
abbrev S_ : Shape := ⟨0, ![]⟩
abbrev S12x1x1024 : Shape := ⟨3, ![12, 1, 1024]⟩
abbrev S1x2048 : Shape := ⟨2, ![1, 2048]⟩
abbrev S8192x12288 : Shape := ⟨2, ![8192, 12288]⟩
abbrev S1024x2048 : Shape := ⟨2, ![1024, 2048]⟩
abbrev S1x2048x1024 : Shape := ⟨3, ![1, 2048, 1024]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x12352, .f32⟩
  | .hbm, ⟨3, _⟩ => ⟨S2x2048x12288, .f32⟩
  | .hbm, ⟨4, _⟩ => ⟨S2x2048x12288, .bf16⟩
  | .hbm, ⟨5, _⟩ => ⟨S_, .f32⟩
  | .hbm, ⟨6, _⟩ => ⟨S12x1x1024, .f32⟩
  | .hbm, ⟨7, _⟩ => ⟨S1x2048, .f32⟩
  | .hbm, ⟨8, _⟩ => ⟨S8192x12288, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
abbrev S8192x2048 : Shape := ⟨2, ![8192, 2048]⟩
abbrev S2048 : Shape := ⟨1, ![2048]⟩
abbrev S2x2048x12352 : Shape := ⟨3, ![2, 2048, 12352]⟩
abbrev S2x2048x12288 : Shape := ⟨3, ![2, 2048, 12288]⟩
abbrev S_ : Shape := ⟨0, ![]⟩
abbrev S12x1x1024 : Shape := ⟨3, ![12, 1, 1024]⟩
abbrev S1x2048 : Shape := ⟨2, ![1, 2048]⟩
abbrev S8192x12288 : Shape := ⟨2, ![8192, 12288]⟩
abbrev S1024x2048 : Shape := ⟨2, ![1024, 2048]⟩
abbrev S1x2048x1024 : Shape := ⟨3, ![1, 2048, 1024]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x12352, .f32⟩
  | .hbm, ⟨3, _⟩ => ⟨S2x2048x12288, .f32⟩
  | .hbm, ⟨4, _⟩ => ⟨S2x2048x12288, .bf16⟩
  | .hbm, ⟨5, _⟩ => ⟨S_, .f32⟩
  | .hbm, ⟨6, _⟩ => ⟨S12x1x1024, .f32⟩
  | .hbm, ⟨7, _⟩ => ⟨S1x2048, .f32⟩
  | .hbm, ⟨8, _⟩ => ⟨S8192x12288, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x2048 : Shape := ⟨2, ![8192, 2048]⟩
abbrev S2048 : Shape := ⟨1, ![2048]⟩
abbrev S2x2048x12352 : Shape := ⟨3, ![2, 2048, 12352]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x12352 : Shape := ⟨3, ![1, 2048, 12352]⟩
abbrev S2048x12352 : Shape := ⟨2, ![2048, 12352]⟩
abbrev S8192x12352 : Shape := ⟨2, ![8192, 12352]⟩
abbrev S8192x12288 : Shape := ⟨2, ![8192, 12288]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x12352, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x12352, .f32⟩
  | .hbm, ⟨20, _⟩ => ⟨S2048x12352, .f32⟩
  | .hbm, ⟨21, _⟩ => ⟨S8192x12352, .f32⟩
  | .hbm, ⟨22, _⟩ => ⟨S8192x12288, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S8192x4096 : Shape := ⟨2, ![8192, 4096]⟩
abbrev S2x4096x2048 : Shape := ⟨3, ![2, 4096, 2048]⟩
abbrev S8192x2048 : Shape := ⟨2, ![8192, 2048]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x2048, .f32⟩
  | .hbm, ⟨3, _⟩ => ⟨S2x4096x2048, .bf16⟩
  | .hbm, ⟨4, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x4096 : Shape := ⟨2, ![8192, 4096]⟩
abbrev S2x4096x2048 : Shape := ⟨3, ![2, 4096, 2048]⟩
abbrev S8192x2048 : Shape := ⟨2, ![8192, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x2048, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x3072 : Shape := ⟨2, ![2048, 3072]⟩
abbrev S128 : Shape := ⟨1, ![128]⟩
abbrev S_ : Shape := ⟨0, ![]⟩
abbrev S2x1x512 : Shape := ⟨3, ![2, 1, 512]⟩
abbrev S1x128 : Shape := ⟨2, ![1, 128]⟩
abbrev S4x128 : Shape := ⟨2, ![4, 128]⟩
abbrev S512 : Shape := ⟨1, ![512]⟩
abbrev S1x1x512 : Shape := ⟨3, ![1, 1, 512]⟩
abbrev S6x1x512 : Shape := ⟨3, ![6, 1, 512]⟩
abbrev S1x2048 : Shape := ⟨2, ![1, 2048]⟩
abbrev S3x8192x1024 : Shape := ⟨3, ![3, 8192, 1024]⟩
abbrev S1024x2048 : Shape := ⟨2, ![1024, 2048]⟩
abbrev S2048x512 : Shape := ⟨2, ![2048, 512]⟩
abbrev S1x1024x512 : Shape := ⟨3, ![1, 1024, 512]⟩
abbrev S1024 : Shape := ⟨1, ![1024]⟩
abbrev S1024x1 : Shape := ⟨2, ![1024, 1]⟩
abbrev S1024x512 : Shape := ⟨2, ![1024, 512]⟩
abbrev S1x512 : Shape := ⟨2, ![1, 512]⟩
abbrev S1024x128 : Shape := ⟨2, ![1024, 128]⟩

abbrev nBuf : Space → Nat
  | .hbm => 23
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S2x1x512, .f32⟩
  | .hbm, ⟨7, _⟩ => ⟨S1x128, .f32⟩
  | .hbm, ⟨8, _⟩ => ⟨S4x128, .f32⟩
  | .hbm, ⟨9, _⟩ => ⟨S512, .f32⟩
  | .hbm, ⟨10, _⟩ => ⟨S1x1x512, .f32⟩
  | .hbm, ⟨11, _⟩ => ⟨S_, .f32⟩
  | .hbm, ⟨12, _⟩ => ⟨S1x1x512, .f32⟩
  | .hbm, ⟨13, _⟩ => ⟨S1x128, .f32⟩
  | .hbm, ⟨14, _⟩ => ⟨S4x128, .f32⟩
  | .hbm, ⟨15, _⟩ => ⟨S512, .f32⟩
  | .hbm, ⟨16, _⟩ => ⟨S1x1x512, .f32⟩
  | .hbm, ⟨17, _⟩ => ⟨S_, .f32⟩
  | .hbm, ⟨18, _⟩ => ⟨S1x1x512, .f32⟩
  | .hbm, ⟨19, _⟩ => ⟨S6x1x512, .f32⟩
  | .hbm, ⟨20, _⟩ => ⟨S2048x3072, .bf16⟩
  | .hbm, ⟨21, _⟩ => ⟨S1x2048, .f32⟩
  | .hbm, ⟨22, _⟩ => ⟨S3x8192x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x1x512, .f32⟩
  | .local _ .vmem, ⟨6, _⟩ => ⟨S1x1x512, .f32⟩
  | .local _ .vmem, ⟨7, _⟩ => ⟨S1x1024x512, .f32⟩
  | .local _ .vmem, ⟨8, _⟩ => ⟨S1x1024x512, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def k0_cond2 (i : grid0.Coords) : BitVec 1 :=
  let arg1 : BitVec 32 := BitVec.ofNat 32 (i 1).val
  let c2_i32 : BitVec 32 := 2#32
  let v7 : BitVec 1 := Scalar.cmpi .eq arg1 c2_i32
  let c4_i32 : BitVec 32 := 4#32
  let v8 : BitVec 1 := Scalar.cmpi .eq arg1 c4_i32
  let v9 : BitVec 1 := Scalar.ori v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c2_i32 : BitVec 32 := 2#32
  let v7 : BitVec 1 := Scalar.cmpi .eq arg1 c2_i32
  let c4_i32 : BitVec 32 := 4#32
  let v8 : BitVec 1 := Scalar.cmpi .eq arg1 c4_i32
  let v9 : BitVec 1 := Scalar.ori v7 v8
  let v_true : BitVec 1 := 1#1
  let v12 : BitVec 1 := Scalar.xori v9 v_true
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel5Ideal.lean ====
abbrev S8192x2048 : Shape := ⟨2, ![8192, 2048]⟩
abbrev S2048 : Shape := ⟨1, ![2048]⟩
abbrev S2048x3072 : Shape := ⟨2, ![2048, 3072]⟩
abbrev S128 : Shape := ⟨1, ![128]⟩
abbrev S_ : Shape := ⟨0, ![]⟩
abbrev S2x1x512 : Shape := ⟨3, ![2, 1, 512]⟩
abbrev S1x128 : Shape := ⟨2, ![1, 128]⟩
abbrev S4x128 : Shape := ⟨2, ![4, 128]⟩
abbrev S512 : Shape := ⟨1, ![512]⟩
abbrev S1x1x512 : Shape := ⟨3, ![1, 1, 512]⟩
abbrev S6x1x512 : Shape := ⟨3, ![6, 1, 512]⟩
abbrev S1x2048 : Shape := ⟨2, ![1, 2048]⟩
abbrev S3x8192x1024 : Shape := ⟨3, ![3, 8192, 1024]⟩
abbrev S1024x2048 : Shape := ⟨2, ![1024, 2048]⟩
abbrev S2048x512 : Shape := ⟨2, ![2048, 512]⟩
abbrev S1x1024x512 : Shape := ⟨3, ![1, 1024, 512]⟩
abbrev S1024 : Shape := ⟨1, ![1024]⟩
abbrev S1024x1 : Shape := ⟨2, ![1024, 1]⟩
abbrev S1024x512 : Shape := ⟨2, ![1024, 512]⟩
abbrev S1x512 : Shape := ⟨2, ![1, 512]⟩
abbrev S1024x128 : Shape := ⟨2, ![1024, 128]⟩

abbrev nBuf : Space → Nat
  | .hbm => 23
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S2x1x512, .f32⟩
  | .hbm, ⟨7, _⟩ => ⟨S1x128, .f32⟩
  | .hbm, ⟨8, _⟩ => ⟨S4x128, .f32⟩
  | .hbm, ⟨9, _⟩ => ⟨S512, .f32⟩
  | .hbm, ⟨10, _⟩ => ⟨S1x1x512, .f32⟩
  | .hbm, ⟨11, _⟩ => ⟨S_, .f32⟩
  | .hbm, ⟨12, _⟩ => ⟨S1x1x512, .f32⟩
  | .hbm, ⟨13, _⟩ => ⟨S1x128, .f32⟩
  | .hbm, ⟨14, _⟩ => ⟨S4x128, .f32⟩
  | .hbm, ⟨15, _⟩ => ⟨S512, .f32⟩
  | .hbm, ⟨16, _⟩ => ⟨S1x1x512, .f32⟩
  | .hbm, ⟨17, _⟩ => ⟨S_, .f32⟩
  | .hbm, ⟨18, _⟩ => ⟨S1x1x512, .f32⟩
  | .hbm, ⟨19, _⟩ => ⟨S6x1x512, .f32⟩
  | .hbm, ⟨20, _⟩ => ⟨S2048x3072, .bf16⟩
  | .hbm, ⟨21, _⟩ => ⟨S1x2048, .f32⟩
  | .hbm, ⟨22, _⟩ => ⟨S3x8192x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x1x512, .f32⟩
  | .local _ .vmem, ⟨6, _⟩ => ⟨S1x1x512, .f32⟩
  | .local _ .vmem, ⟨7, _⟩ => ⟨S1x1024x512, .f32⟩
  | .local _ .vmem, ⟨8, _⟩ => ⟨S1x1024x512, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def k0_cond2 (i : grid0.Coords) : BitVec 1 :=
  let arg1 : BitVec 32 := BitVec.ofNat 32 (i 1).val
  let c2_i32 : BitVec 32 := 2#32
  let v7 : BitVec 1 := Scalar.cmpi .eq arg1 c2_i32
  let c4_i32 : BitVec 32 := 4#32
  let v8 : BitVec 1 := Scalar.cmpi .eq arg1 c4_i32
  let v9 : BitVec 1 := Scalar.ori v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c2_i32 : BitVec 32 := 2#32
  let v7 : BitVec 1 := Scalar.cmpi .eq arg1 c2_i32
  let c4_i32 : BitVec 32 := 4#32
  let v8 : BitVec 1 := Scalar.cmpi .eq arg1 c4_i32
  let v9 : BitVec 1 := Scalar.ori v7 v8
  let v_true : BitVec 1 := 1#1
  let v12 : BitVec 1 := Scalar.xori v9 v_true
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x2048 : Shape := ⟨2, ![8192, 2048]⟩
abbrev S2048 : Shape := ⟨1, ![2048]⟩
abbrev S2048x3072 : Shape := ⟨2, ![2048, 3072]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3072 : Shape := ⟨2, ![8192, 3072]⟩
abbrev S8192x6x4x128 : Shape := ⟨4, ![8192, 6, 4, 128]⟩
abbrev S8192x1x4x128 : Shape := ⟨4, ![8192, 1, 4, 128]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192x2x4x128 : Shape := ⟨4, ![8192, 2, 4, 128]⟩
abbrev S1x8192x2x4x128 : Shape := ⟨5, ![1, 8192, 2, 4, 128]⟩
abbrev S3x8192x2x4x128 : Shape := ⟨5, ![3, 8192, 2, 4, 128]⟩
abbrev S3x8192x1024 : Shape := ⟨3, ![3, 8192, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S128, .f32⟩
  | .hbm, ⟨4, _⟩ => ⟨S128, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x3072, .f32⟩
  | .hbm, ⟨22, _⟩ => ⟨S8192x6x4x128, .f32⟩
  | .hbm, ⟨23, _⟩ => ⟨S8192x1x4x128, .f32⟩
  | .hbm, ⟨24, _⟩ => ⟨S8192x4x128, .f32⟩
  | .hbm, ⟨25, _⟩ => ⟨S8192x1x4x128, .f32⟩
  | .hbm, ⟨26, _⟩ => ⟨S8192x4x128, .f32⟩
  | .hbm, ⟨27, _⟩ => ⟨S8192x4x128, .f32⟩
  | .hbm, ⟨28, _⟩ => ⟨S_, .f32⟩
  | .hbm, ⟨29, _⟩ => ⟨S8192x4, .f32⟩
  | .hbm, ⟨30, _⟩ => ⟨S8192x4x1, .f32⟩
  | .hbm, ⟨31, _⟩ => ⟨S_, .f32⟩
  | .hbm, ⟨32, _⟩ => ⟨S8192x4x1, .f32⟩
  | .hbm, ⟨33, _⟩ => ⟨S8192x4x1, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1, .f32⟩
  | .hbm, ⟨38, _⟩ => ⟨S8192x4x128, .f32⟩
  | .hbm, ⟨39, _⟩ => ⟨S8192x4x128, .f32⟩
  | .hbm, ⟨40, _⟩ => ⟨S1x1x128, .f32⟩
  | .hbm, ⟨41, _⟩ => ⟨S8192x4x128, .f32⟩
  | .hbm, ⟨42, _⟩ => ⟨S8192x4x128, .f32⟩
  | .hbm, ⟨43, _⟩ => ⟨S8192x4x128, .f32⟩
  | .hbm, ⟨44, _⟩ => ⟨S_, .f32⟩
  | .hbm, ⟨45, _⟩ => ⟨S8192x4, .f32⟩
  | .hbm, ⟨46, _⟩ => ⟨S8192x4x1, .f32⟩
  | .hbm, ⟨47, _⟩ => ⟨S_, .f32⟩
  | .hbm, ⟨48, _⟩ => ⟨S8192x4x1, .f32⟩
  | .hbm, ⟨49, _⟩ => ⟨S8192x4x1, .f32⟩
  | .hbm, ⟨50, _⟩ => ⟨S_, .f32⟩
  | .hbm, ⟨51, _⟩ => ⟨S8192x4x1, .f32⟩
  | .hbm, ⟨52, _⟩ => ⟨S8192x4x1, .f32⟩
  | .hbm, ⟨53, _⟩ => ⟨S8192x4x1, .f32⟩
  | .hbm, ⟨54, _⟩ => ⟨S8192x4x128, .f32⟩
  | .hbm, ⟨55, _⟩ => ⟨S8192x4x128, .f32⟩
  | .hbm, ⟨56, _⟩ => ⟨S1x1x128, .f32⟩
  | .hbm, ⟨57, _⟩ => ⟨S8192x4x128, .f32⟩
  | .hbm, ⟨58, _⟩ => ⟨S8192x4x128, .f32⟩
  | .hbm, ⟨59, _⟩ => ⟨S8192x2x4x128, .f32⟩
  | .hbm, ⟨60, _⟩ => ⟨S8192x1x4x128, .f32⟩
  | .hbm, ⟨61, _⟩ => ⟨S8192x4x128, .f32⟩
  | .hbm, ⟨62, _⟩ => ⟨S8192x1x4x128, .f32⟩
  | .hbm, ⟨63, _⟩ => ⟨S8192x1x4x128, .f32⟩
  | .hbm, ⟨64, _⟩ => ⟨S8192x2x4x128, .f32⟩
  | .hbm, ⟨65, _⟩ => ⟨S8192x1x4x128, .f32⟩
  | .hbm, ⟨66, _⟩ => ⟨S8192x4x128, .f32⟩
  | .hbm, ⟨67, _⟩ => ⟨S8192x1x4x128, .f32⟩
  | .hbm, ⟨68, _⟩ => ⟨S8192x1x4x128, .f32⟩
  | .hbm, ⟨69, _⟩ => ⟨S8192x2x4x128, .f32⟩
  | .hbm, ⟨70, _⟩ => ⟨S1x8192x2x4x128, .f32⟩
  | .hbm, ⟨71, _⟩ => ⟨S1x8192x2x4x128, .f32⟩
  | .hbm, ⟨72, _⟩ => ⟨S1x8192x2x4x128, .f32⟩
  | .hbm, ⟨73, _⟩ => ⟨S3x8192x2x4x128, .f32⟩
  | .hbm, ⟨74, _⟩ => ⟨S3x8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2x2048x2096 : Shape := ⟨3, ![2, 2048, 2096]⟩
abbrev S128 : Shape := ⟨1, ![128]⟩
abbrev S1x128 : Shape := ⟨2, ![1, 128]⟩
abbrev S4x128 : Shape := ⟨2, ![4, 128]⟩
abbrev S512 : Shape := ⟨1, ![512]⟩
abbrev S1x1x512 : Shape := ⟨3, ![1, 1, 512]⟩
abbrev S1x1x1x1x1x512 : Shape := ⟨6, ![1, 1, 1, 1, 1, 512]⟩
abbrev S4x1x1x1x1x512 : Shape := ⟨6, ![4, 1, 1, 1, 1, 512]⟩
abbrev S4x1x512 : Shape := ⟨3, ![4, 1, 512]⟩
abbrev S2x2048x2048 : Shape := ⟨3, ![2, 2048, 2048]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩
abbrev S1x512 : Shape := ⟨2, ![1, 512]⟩
abbrev S1024x128 : Shape := ⟨2, ![1024, 128]⟩

abbrev nBuf : Space → Nat
  | .hbm => 15
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x2096, .f32⟩
  | .hbm, ⟨3, _⟩ => ⟨S128, .f32⟩
  | .hbm, ⟨4, _⟩ => ⟨S1x128, .f32⟩
  | .hbm, ⟨5, _⟩ => ⟨S4x128, .f32⟩
  | .hbm, ⟨6, _⟩ => ⟨S512, .f32⟩
  | .hbm, ⟨7, _⟩ => ⟨S1x1x512, .f32⟩
  | .hbm, ⟨8, _⟩ => ⟨S1x1x1x1x1x512, .f32⟩
  | .hbm, ⟨9, _⟩ => ⟨S4x1x1x1x1x512, .f32⟩
  | .hbm, ⟨10, _⟩ => ⟨S4x1x512, .f32⟩
  | .hbm, ⟨11, _⟩ => ⟨S2x2048x2048, .f32⟩
  | .hbm, ⟨12, _⟩ => ⟨S2x2048x2048, .bf16⟩
  | .hbm, ⟨13, _⟩ => ⟨S1x2048, .f32⟩
  | .hbm, ⟨14, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x1x512, .f32⟩
  | .local _ .vmem, ⟨6, _⟩ => ⟨S1x1x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x2048 : Shape := ⟨2, ![8192, 2048]⟩
abbrev S2048 : Shape := ⟨1, ![2048]⟩
abbrev S2x2048x2096 : Shape := ⟨3, ![2, 2048, 2096]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x2096 : Shape := ⟨3, ![1, 2048, 2096]⟩
abbrev S2048x2096 : Shape := ⟨2, ![2048, 2096]⟩
abbrev S8192x2096 : Shape := ⟨2, ![8192, 2096]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x2096, .f32⟩
  | .hbm, ⟨3, _⟩ => ⟨S128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048x2096, .f32⟩
  | .hbm, ⟨21, _⟩ => ⟨S2048x2096, .f32⟩
  | .hbm, ⟨22, _⟩ => ⟨S8192x2096, .f32⟩
  | .hbm, ⟨23, _⟩ => ⟨S8192x2048, .f32⟩
  | .hbm, ⟨24, _⟩ => ⟨S8192x16x128, .f32⟩
  | .hbm, ⟨25, _⟩ => ⟨S8192x16x128, .f32⟩
  | .hbm, ⟨26, _⟩ => ⟨S_, .f32⟩
  | .hbm, ⟨27, _⟩ => ⟨S8192x16, .f32⟩
  | .hbm, ⟨28, _⟩ => ⟨S8192x16x1, .f32⟩
  | .hbm, ⟨29, _⟩ => ⟨S_, .f32⟩
  | .hbm, ⟨30, _⟩ => ⟨S8192x16x1, .f32⟩
  | .hbm, ⟨31, _⟩ => ⟨S8192x16x1, .f32⟩
  | .hbm, ⟨32, _⟩ => ⟨S_, .f32⟩
  | .hbm, ⟨33, _⟩ => ⟨S8192x16x1, .f32⟩
  | .hbm, ⟨34, _⟩ => ⟨S8192x16x1, .f32⟩
  | .hbm, ⟨35, _⟩ => ⟨S8192x16x1, .f32⟩
  | .hbm, ⟨36, _⟩ => ⟨S8192x16x128, .f32⟩
  | .hbm, ⟨37, _⟩ => ⟨S8192x16x128, .f32⟩
  | .hbm, ⟨38, _⟩ => ⟨S1x1x128, .f32⟩
  | .hbm, ⟨39, _⟩ => ⟨S8192x16x128, .f32⟩
  | .hbm, ⟨40, _⟩ => ⟨S8192x16x128, .f32⟩
  | .hbm, ⟨41, _⟩ => ⟨S_, .f32⟩
  | .hbm, ⟨42, _⟩ => ⟨S8192x16x128, .f32⟩
  | .hbm, ⟨43, _⟩ => ⟨S8192x16x128, .f32⟩
  | .hbm, ⟨44, _⟩ => ⟨S8192x2048, .f32⟩
  | .hbm, ⟨45, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel7.lean ====
abbrev S8192x2048 : Shape := ⟨2, ![8192, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S2048 : Shape := ⟨1, ![2048]⟩
abbrev S2048x128 : Shape := ⟨2, ![2048, 128]⟩
abbrev S_ : Shape := ⟨0, ![]⟩
abbrev S1x1x128 : Shape := ⟨3, ![1, 1, 128]⟩
abbrev S1x2048 : Shape := ⟨2, ![1, 2048]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S2048x128, .bf16⟩
  | .hbm, ⟨4, _⟩ => ⟨S_, .f32⟩
  | .hbm, ⟨5, _⟩ => ⟨S1x1x128, .f32⟩
  | .hbm, ⟨6, _⟩ => ⟨S1x2048, .f32⟩
  | .hbm, ⟨7, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S1x1x128, .f32⟩
  | .local _ .vmem, ⟨5, _⟩ => ⟨S512x128, .f32⟩
  | .local _ .vmem, ⟨6, _⟩ => ⟨S512x128, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S8192x2048 : Shape := ⟨2, ![8192, 2048]⟩
abbrev S2048 : Shape := ⟨1, ![2048]⟩
abbrev S2048x128 : Shape := ⟨2, ![2048, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel9.lean ====
abbrev S512x2048 : Shape := ⟨2, ![512, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 8
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S1x2048, .f32⟩
  | .hbm, ⟨7, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .bf16⟩
  | .local _ .vmem, ⟨8, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference9Ideal.lean ====
abbrev S512x2048 : Shape := ⟨2, ![512, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x8192 : Shape := ⟨3, ![1, 2048, 8192]⟩
abbrev S2048x8192 : Shape := ⟨2, ![2048, 8192]⟩
abbrev S512x8192 : Shape := ⟨2, ![512, 8192]⟩
abbrev S1x8192x2048 : Shape := ⟨3, ![1, 8192, 2048]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S512x2048, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x2048, .f32⟩
  | .hbm, ⟨16, _⟩ => ⟨S512x2048, .f32⟩
  | .hbm, ⟨17, _⟩ => ⟨S1x2048, .f32⟩
  | .hbm, ⟨18, _⟩ => ⟨S512x2048, .f32⟩
  | .hbm, ⟨19, _⟩ => ⟨S512x2048, .f32⟩
  | .hbm, ⟨20, _⟩ => ⟨S1x2048x8192, .f32⟩
  | .hbm, ⟨21, _⟩ => ⟨S2048x8192, .f32⟩
  | .hbm, ⟨22, _⟩ => ⟨S512x8192, .f32⟩
  | .hbm, ⟨23, _⟩ => ⟨S_, .f32⟩
  | .hbm, ⟨24, _⟩ => ⟨S512x8192, .f32⟩
  | .hbm, ⟨25, _⟩ => ⟨S512x8192, .f32⟩
  | .hbm, ⟨26, _⟩ => ⟨S512x8192, .f32⟩
  | .hbm, ⟨27, _⟩ => ⟨S1x8192x2048, .f32⟩
  | .hbm, ⟨28, _⟩ => ⟨S8192x2048, .f32⟩
  | .hbm, ⟨29, _⟩ => ⟨S512x2048, .f32⟩
  | .hbm, ⟨30, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel10.lean ====
abbrev S512x2048 : Shape := ⟨2, ![512, 2048]⟩
abbrev S2048 : Shape := ⟨1, ![2048]⟩
abbrev S2048x3072 : Shape := ⟨2, ![2048, 3072]⟩
abbrev S128 : Shape := ⟨1, ![128]⟩
abbrev S_ : Shape := ⟨0, ![]⟩
abbrev S2x1x512 : Shape := ⟨3, ![2, 1, 512]⟩
abbrev S1x128 : Shape := ⟨2, ![1, 128]⟩
abbrev S4x128 : Shape := ⟨2, ![4, 128]⟩
abbrev S512 : Shape := ⟨1, ![512]⟩
abbrev S1x1x512 : Shape := ⟨3, ![1, 1, 512]⟩
abbrev S6x1x512 : Shape := ⟨3, ![6, 1, 512]⟩
abbrev S1x2048 : Shape := ⟨2, ![1, 2048]⟩
abbrev S3x512x1024 : Shape := ⟨3, ![3, 512, 1024]⟩
abbrev S2048x512 : Shape := ⟨2, ![2048, 512]⟩
abbrev S1x512x512 : Shape := ⟨3, ![1, 512, 512]⟩
abbrev S512x1 : Shape := ⟨2, ![512, 1]⟩
abbrev S512x512 : Shape := ⟨2, ![512, 512]⟩
abbrev S1x512 : Shape := ⟨2, ![1, 512]⟩
abbrev S512x128 : Shape := ⟨2, ![512, 128]⟩

abbrev nBuf : Space → Nat
  | .hbm => 23
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x3072, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S2x1x512, .f32⟩
  | .hbm, ⟨7, _⟩ => ⟨S1x128, .f32⟩
  | .hbm, ⟨8, _⟩ => ⟨S4x128, .f32⟩
  | .hbm, ⟨9, _⟩ => ⟨S512, .f32⟩
  | .hbm, ⟨10, _⟩ => ⟨S1x1x512, .f32⟩
  | .hbm, ⟨11, _⟩ => ⟨S_, .f32⟩
  | .hbm, ⟨12, _⟩ => ⟨S1x1x512, .f32⟩
  | .hbm, ⟨13, _⟩ => ⟨S1x128, .f32⟩
  | .hbm, ⟨14, _⟩ => ⟨S4x128, .f32⟩
  | .hbm, ⟨15, _⟩ => ⟨S512, .f32⟩
  | .hbm, ⟨16, _⟩ => ⟨S1x1x512, .f32⟩
  | .hbm, ⟨17, _⟩ => ⟨S_, .f32⟩
  | .hbm, ⟨18, _⟩ => ⟨S1x1x512, .f32⟩
  | .hbm, ⟨19, _⟩ => ⟨S6x1x512, .f32⟩
  | .hbm, ⟨20, _⟩ => ⟨S2048x3072, .bf16⟩
  | .hbm, ⟨21, _⟩ => ⟨S1x2048, .f32⟩
  | .hbm, ⟨22, _⟩ => ⟨S3x512x1024, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S1x1x512, .f32⟩
  | .local _ .vmem, ⟨5, _⟩ => ⟨S1x1x512, .f32⟩
  | .local _ .vmem, ⟨6, _⟩ => ⟨S1x512x512, .f32⟩
  | .local _ .vmem, ⟨7, _⟩ => ⟨S1x512x512, .f32⟩
  | .local _ .vmem, ⟨8, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c2_i32 : BitVec 32 := 2#32
  let v7 : BitVec 1 := Scalar.cmpi .eq arg1 c2_i32
  let c4_i32 : BitVec 32 := 4#32
  let v8 : BitVec 1 := Scalar.cmpi .eq arg1 c4_i32
  let v9 : BitVec 1 := Scalar.ori v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c2_i32 : BitVec 32 := 2#32
  let v7 : BitVec 1 := Scalar.cmpi .eq arg1 c2_i32
  let c4_i32 : BitVec 32 := 4#32
  let v8 : BitVec 1 := Scalar.cmpi .eq arg1 c4_i32
  let v9 : BitVec 1 := Scalar.ori v7 v8
  let v_true : BitVec 1 := 1#1
  let v12 : BitVec 1 := Scalar.xori v9 v_true
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S512x2048 : Shape := ⟨2, ![512, 2048]⟩
abbrev S2048 : Shape := ⟨1, ![2048]⟩
abbrev S2048x3072 : Shape := ⟨2, ![2048, 3072]⟩
abbrev S128 : Shape := ⟨1, ![128]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x3072 : Shape := ⟨2, ![512, 3072]⟩
abbrev S512x6x4x128 : Shape := ⟨4, ![512, 6, 4, 128]⟩
abbrev S512x1x4x128 : Shape := ⟨4, ![512, 1, 4, 128]⟩
abbrev S512x4x128 : Shape := ⟨3, ![512, 4, 128]⟩
abbrev S512x4 : Shape := ⟨2, ![512, 4]⟩
abbrev S512x4x1 : Shape := ⟨3, ![512, 4, 1]⟩
abbrev S1x1x128 : Shape := ⟨3, ![1, 1, 128]⟩
abbrev S512x2x4x128 : Shape := ⟨4, ![512, 2, 4, 128]⟩
abbrev S1x512x2x4x128 : Shape := ⟨5, ![1, 512, 2, 4, 128]⟩
abbrev S3x512x2x4x128 : Shape := ⟨5, ![3, 512, 2, 4, 128]⟩
abbrev S3x512x1024 : Shape := ⟨3, ![3, 512, 1024]⟩

abbrev nBuf : Space → Nat
  | .hbm => 75
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x3072, .f32⟩
  | .hbm, ⟨3, _⟩ => ⟨S128, .f32⟩
  | .hbm, ⟨4, _⟩ => ⟨S128, .f32⟩
  | .hbm, ⟨5, _⟩ => ⟨S512x2048, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x2048, .f32⟩
  | .hbm, ⟨17, _⟩ => ⟨S512x2048, .f32⟩
  | .hbm, ⟨18, _⟩ => ⟨S1x2048, .f32⟩
  | .hbm, ⟨19, _⟩ => ⟨S512x2048, .f32⟩
  | .hbm, ⟨20, _⟩ => ⟨S512x2048, .f32⟩
  | .hbm, ⟨21, _⟩ => ⟨S512x3072, .f32⟩
  | .hbm, ⟨22, _⟩ => ⟨S512x6x4x128, .f32⟩
  | .hbm, ⟨23, _⟩ => ⟨S512x1x4x128, .f32⟩
  | .hbm, ⟨24, _⟩ => ⟨S512x4x128, .f32⟩
  | .hbm, ⟨25, _⟩ => ⟨S512x1x4x128, .f32⟩
  | .hbm, ⟨26, _⟩ => ⟨S512x4x128, .f32⟩
  | .hbm, ⟨27, _⟩ => ⟨S512x4x128, .f32⟩
  | .hbm, ⟨28, _⟩ => ⟨S_, .f32⟩
  | .hbm, ⟨29, _⟩ => ⟨S512x4, .f32⟩
  | .hbm, ⟨30, _⟩ => ⟨S512x4x1, .f32⟩
  | .hbm, ⟨31, _⟩ => ⟨S_, .f32⟩
  | .hbm, ⟨32, _⟩ => ⟨S512x4x1, .f32⟩
  | .hbm, ⟨33, _⟩ => ⟨S512x4x1, .f32⟩
  | .hbm, ⟨34, _⟩ => ⟨S_, .f32⟩
  | .hbm, ⟨35, _⟩ => ⟨S512x4x1, .f32⟩
  | .hbm, ⟨36, _⟩ => ⟨S512x4x1, .f32⟩
  | .hbm, ⟨37, _⟩ => ⟨S512x4x1, .f32⟩
  | .hbm, ⟨38, _⟩ => ⟨S512x4x128, .f32⟩
  | .hbm, ⟨39, _⟩ => ⟨S512x4x128, .f32⟩
  | .hbm, ⟨40, _⟩ => ⟨S1x1x128, .f32⟩
  | .hbm, ⟨41, _⟩ => ⟨S512x4x128, .f32⟩
  | .hbm, ⟨42, _⟩ => ⟨S512x4x128, .f32⟩
  | .hbm, ⟨43, _⟩ => ⟨S512x4x128, .f32⟩
  | .hbm, ⟨44, _⟩ => ⟨S_, .f32⟩
  | .hbm, ⟨45, _⟩ => ⟨S512x4, .f32⟩
  | .hbm, ⟨46, _⟩ => ⟨S512x4x1, .f32⟩
  | .hbm, ⟨47, _⟩ => ⟨S_, .f32⟩
  | .hbm, ⟨48, _⟩ => ⟨S512x4x1, .f32⟩
  | .hbm, ⟨49, _⟩ => ⟨S512x4x1, .f32⟩
  | .hbm, ⟨50, _⟩ => ⟨S_, .f32⟩
  | .hbm, ⟨51, _⟩ => ⟨S512x4x1, .f32⟩
  | .hbm, ⟨52, _⟩ => ⟨S512x4x1, .f32⟩
  | .hbm, ⟨53, _⟩ => ⟨S512x4x1, .f32⟩
  | .hbm, ⟨54, _⟩ => ⟨S512x4x128, .f32⟩
  | .hbm, ⟨55, _⟩ => ⟨S512x4x128, .f32⟩
  | .hbm, ⟨56, _⟩ => ⟨S1x1x128, .f32⟩
  | .hbm, ⟨57, _⟩ => ⟨S512x4x128, .f32⟩
  | .hbm, ⟨58, _⟩ => ⟨S512x4x128, .f32⟩
  | .hbm, ⟨59, _⟩ => ⟨S512x2x4x128, .f32⟩
  | .hbm, ⟨60, _⟩ => ⟨S512x1x4x128, .f32⟩
  | .hbm, ⟨61, _⟩ => ⟨S512x4x128, .f32⟩
  | .hbm, ⟨62, _⟩ => ⟨S512x1x4x128, .f32⟩
  | .hbm, ⟨63, _⟩ => ⟨S512x1x4x128, .f32⟩
  | .hbm, ⟨64, _⟩ => ⟨S512x2x4x128, .f32⟩
  | .hbm, ⟨65, _⟩ => ⟨S512x1x4x128, .f32⟩
  | .hbm, ⟨66, _⟩ => ⟨S512x4x128, .f32⟩
  | .hbm, ⟨67, _⟩ => ⟨S512x1x4x128, .f32⟩
  | .hbm, ⟨68, _⟩ => ⟨S512x1x4x128, .f32⟩
  | .hbm, ⟨69, _⟩ => ⟨S512x2x4x128, .f32⟩
  | .hbm, ⟨70, _⟩ => ⟨S1x512x2x4x128, .f32⟩
  | .hbm, ⟨71, _⟩ => ⟨S1x512x2x4x128, .f32⟩
  | .hbm, ⟨72, _⟩ => ⟨S1x512x2x4x128, .f32⟩
  | .hbm, ⟨73, _⟩ => ⟨S3x512x2x4x128, .f32⟩
  | .hbm, ⟨74, _⟩ => ⟨S3x512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel11.lean ====
abbrev S8192x2048 : Shape := ⟨2, ![8192, 2048]⟩
abbrev S2048 : Shape := ⟨1, ![2048]⟩
abbrev S2x2048x12352 : Shape := ⟨3, ![2, 2048, 12352]⟩
abbrev S2x2048x12288 : Shape := ⟨3, ![2, 2048, 12288]⟩
abbrev S_ : Shape := ⟨0, ![]⟩
abbrev S12x1x1024 : Shape := ⟨3, ![12, 1, 1024]⟩
abbrev S1x2048 : Shape := ⟨2, ![1, 2048]⟩
abbrev S8192x12288 : Shape := ⟨2, ![8192, 12288]⟩
abbrev S1024x2048 : Shape := ⟨2, ![1024, 2048]⟩
abbrev S1x2048x1024 : Shape := ⟨3, ![1, 2048, 1024]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x12352, .f32⟩
  | .hbm, ⟨3, _⟩ => ⟨S2x2048x12288, .f32⟩
  | .hbm, ⟨4, _⟩ => ⟨S2x2048x12288, .bf16⟩
  | .hbm, ⟨5, _⟩ => ⟨S_, .f32⟩
  | .hbm, ⟨6, _⟩ => ⟨S12x1x1024, .f32⟩
  | .hbm, ⟨7, _⟩ => ⟨S1x2048, .f32⟩
  | .hbm, ⟨8, _⟩ => ⟨S8192x12288, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel11Ideal.lean ====
abbrev S8192x2048 : Shape := ⟨2, ![8192, 2048]⟩
abbrev S2048 : Shape := ⟨1, ![2048]⟩
abbrev S2x2048x12352 : Shape := ⟨3, ![2, 2048, 12352]⟩
abbrev S2x2048x12288 : Shape := ⟨3, ![2, 2048, 12288]⟩
abbrev S_ : Shape := ⟨0, ![]⟩
abbrev S12x1x1024 : Shape := ⟨3, ![12, 1, 1024]⟩
abbrev S1x2048 : Shape := ⟨2, ![1, 2048]⟩
abbrev S8192x12288 : Shape := ⟨2, ![8192, 12288]⟩
abbrev S1024x2048 : Shape := ⟨2, ![1024, 2048]⟩
abbrev S1x2048x1024 : Shape := ⟨3, ![1, 2048, 1024]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x12352, .f32⟩
  | .hbm, ⟨3, _⟩ => ⟨S2x2048x12288, .f32⟩
  | .hbm, ⟨4, _⟩ => ⟨S2x2048x12288, .bf16⟩
  | .hbm, ⟨5, _⟩ => ⟨S_, .f32⟩
  | .hbm, ⟨6, _⟩ => ⟨S12x1x1024, .f32⟩
  | .hbm, ⟨7, _⟩ => ⟨S1x2048, .f32⟩
  | .hbm, ⟨8, _⟩ => ⟨S8192x12288, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x2048 : Shape := ⟨2, ![8192, 2048]⟩
abbrev S2048 : Shape := ⟨1, ![2048]⟩
abbrev S2x2048x12352 : Shape := ⟨3, ![2, 2048, 12352]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x12352 : Shape := ⟨3, ![1, 2048, 12352]⟩
abbrev S2048x12352 : Shape := ⟨2, ![2048, 12352]⟩
abbrev S8192x12352 : Shape := ⟨2, ![8192, 12352]⟩
abbrev S8192x12288 : Shape := ⟨2, ![8192, 12288]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x12352, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x12352, .f32⟩
  | .hbm, ⟨20, _⟩ => ⟨S2048x12352, .f32⟩
  | .hbm, ⟨21, _⟩ => ⟨S8192x12352, .f32⟩
  | .hbm, ⟨22, _⟩ => ⟨S8192x12288, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel12.lean ====
abbrev S512x2048 : Shape := ⟨2, ![512, 2048]⟩
abbrev S2048 : Shape := ⟨1, ![2048]⟩
abbrev S2x2048x12352 : Shape := ⟨3, ![2, 2048, 12352]⟩
abbrev S2x2048x12288 : Shape := ⟨3, ![2, 2048, 12288]⟩
abbrev S_ : Shape := ⟨0, ![]⟩
abbrev S12x1x1024 : Shape := ⟨3, ![12, 1, 1024]⟩
abbrev S1x2048 : Shape := ⟨2, ![1, 2048]⟩
abbrev S512x12288 : Shape := ⟨2, ![512, 12288]⟩
abbrev S1x2048x1024 : Shape := ⟨3, ![1, 2048, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x12352, .f32⟩
  | .hbm, ⟨3, _⟩ => ⟨S2x2048x12288, .f32⟩
  | .hbm, ⟨4, _⟩ => ⟨S2x2048x12288, .bf16⟩
  | .hbm, ⟨5, _⟩ => ⟨S_, .f32⟩
  | .hbm, ⟨6, _⟩ => ⟨S12x1x1024, .f32⟩
  | .hbm, ⟨7, _⟩ => ⟨S1x2048, .f32⟩
  | .hbm, ⟨8, _⟩ => ⟨S512x12288, .f32⟩
  | .local _ .vmem, ⟨0, _⟩ => ⟨S512x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S512x2048 : Shape := ⟨2, ![512, 2048]⟩
abbrev S2048 : Shape := ⟨1, ![2048]⟩
abbrev S2x2048x12352 : Shape := ⟨3, ![2, 2048, 12352]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x12352 : Shape := ⟨3, ![1, 2048, 12352]⟩
abbrev S2048x12352 : Shape := ⟨2, ![2048, 12352]⟩
abbrev S512x12352 : Shape := ⟨2, ![512, 12352]⟩
abbrev S512x12288 : Shape := ⟨2, ![512, 12288]⟩

abbrev nBuf : Space → Nat
  | .hbm => 23
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x12352, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S1x2048x12352, .f32⟩
  | .hbm, ⟨20, _⟩ => ⟨S2048x12352, .f32⟩
  | .hbm, ⟨21, _⟩ => ⟨S512x12352, .f32⟩
  | .hbm, ⟨22, _⟩ => ⟨S512x12288, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel13.lean ====
abbrev S512x2048 : Shape := ⟨2, ![512, 2048]⟩
abbrev S2048 : Shape := ⟨1, ![2048]⟩
abbrev S2x2048x12352 : Shape := ⟨3, ![2, 2048, 12352]⟩
abbrev S2x2048x12288 : Shape := ⟨3, ![2, 2048, 12288]⟩
abbrev S_ : Shape := ⟨0, ![]⟩
abbrev S12x1x1024 : Shape := ⟨3, ![12, 1, 1024]⟩
abbrev S1x2048 : Shape := ⟨2, ![1, 2048]⟩
abbrev S512x12288 : Shape := ⟨2, ![512, 12288]⟩
abbrev S1x2048x1024 : Shape := ⟨3, ![1, 2048, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x12352, .f32⟩
  | .hbm, ⟨3, _⟩ => ⟨S2x2048x12288, .f32⟩
  | .hbm, ⟨4, _⟩ => ⟨S2x2048x12288, .bf16⟩
  | .hbm, ⟨5, _⟩ => ⟨S_, .f32⟩
  | .hbm, ⟨6, _⟩ => ⟨S12x1x1024, .f32⟩
  | .hbm, ⟨7, _⟩ => ⟨S1x2048, .f32⟩
  | .hbm, ⟨8, _⟩ => ⟨S512x12288, .f32⟩
  | .local _ .vmem, ⟨0, _⟩ => ⟨S512x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S512x2048 : Shape := ⟨2, ![512, 2048]⟩
abbrev S2048 : Shape := ⟨1, ![2048]⟩
abbrev S2x2048x12352 : Shape := ⟨3, ![2, 2048, 12352]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x12352 : Shape := ⟨3, ![1, 2048, 12352]⟩
abbrev S2048x12352 : Shape := ⟨2, ![2048, 12352]⟩
abbrev S512x12352 : Shape := ⟨2, ![512, 12352]⟩
abbrev S512x12288 : Shape := ⟨2, ![512, 12288]⟩

abbrev nBuf : Space → Nat
  | .hbm => 23
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x12352, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S1x2048x12352, .f32⟩
  | .hbm, ⟨20, _⟩ => ⟨S2048x12352, .f32⟩
  | .hbm, ⟨21, _⟩ => ⟨S512x12352, .f32⟩
  | .hbm, ⟨22, _⟩ => ⟨S512x12288, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel14.lean ====
abbrev S8192x2048 : Shape := ⟨2, ![8192, 2048]⟩
abbrev S2048 : Shape := ⟨1, ![2048]⟩
abbrev S2048x128 : Shape := ⟨2, ![2048, 128]⟩
abbrev S1x2x128 : Shape := ⟨3, ![1, 2, 128]⟩
abbrev S1x2048 : Shape := ⟨2, ![1, 2048]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S2x128 : Shape := ⟨2, ![2, 128]⟩
abbrev S1x128 : Shape := ⟨2, ![1, 128]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S1x2x128, .f32⟩
  | .hbm, ⟨4, _⟩ => ⟨S2048x128, .bf16⟩
  | .hbm, ⟨5, _⟩ => ⟨S1x2048, .f32⟩
  | .hbm, ⟨6, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S1x2x128, .f32⟩
  | .local _ .vmem, ⟨5, _⟩ => ⟨S512x128, .f32⟩
  | .local _ .vmem, ⟨6, _⟩ => ⟨S512x128, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8192x2048 : Shape := ⟨2, ![8192, 2048]⟩
abbrev S2048 : Shape := ⟨1, ![2048]⟩
abbrev S2048x128 : Shape := ⟨2, ![2048, 128]⟩
abbrev S1x2x128 : Shape := ⟨3, ![1, 2, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x128 : Shape := ⟨2, ![8192, 128]⟩
abbrev S1x1x32 : Shape := ⟨3, ![1, 1, 32]⟩
abbrev S32 : Shape := ⟨1, ![32]⟩
abbrev S8192x32 : Shape := ⟨2, ![8192, 32]⟩
abbrev S1x32 : Shape := ⟨2, ![1, 32]⟩
abbrev S128x64x32 : Shape := ⟨3, ![128, 64, 32]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64x1 : Shape := ⟨4, ![1, 64, 64, 1]⟩
abbrev S128x1x64x32 : Shape := ⟨4, ![128, 1, 64, 32]⟩
abbrev S128x64x64x32 : Shape := ⟨4, ![128, 64, 64, 32]⟩
abbrev S8192x64 : Shape := ⟨2, ![8192, 64]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S1x2x128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x128, .f32⟩
  | .hbm, ⟨21, _⟩ => ⟨S1x1x32, .f32⟩
  | .hbm, ⟨22, _⟩ => ⟨S32, .f32⟩
  | .hbm, ⟨23, _⟩ => ⟨S1x1x32, .f32⟩
  | .hbm, ⟨24, _⟩ => ⟨S32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S_, .f32⟩
  | .hbm, ⟨29, _⟩ => ⟨S8192x32, .f32⟩
  | .hbm, ⟨30, _⟩ => ⟨S8192x32, .f32⟩
  | .hbm, ⟨31, _⟩ => ⟨S_, .f32⟩
  | .hbm, ⟨32, _⟩ => ⟨S8192x32, .f32⟩
  | .hbm, ⟨33, _⟩ => ⟨S8192x32, .f32⟩
  | .hbm, ⟨34, _⟩ => ⟨S32, .f32⟩
  | .hbm, ⟨35, _⟩ => ⟨S32, .f32⟩
  | .hbm, ⟨36, _⟩ => ⟨S8192x32, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .i1⟩
  | .hbm, ⟨46, _⟩ => ⟨S8192x32, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S1x32, .f32⟩
  | .hbm, ⟨55, _⟩ => ⟨S8192x32, .f32⟩
  | .hbm, ⟨56, _⟩ => ⟨S8192x32, .f32⟩
  | .hbm, ⟨57, _⟩ => ⟨S128x64x32, .f32⟩
  | .hbm, ⟨58, _⟩ => ⟨S64, .i32⟩
  | .hbm, ⟨59, _⟩ => ⟨S64x1, .i32⟩
  | .hbm, ⟨60, _⟩ => ⟨S64, .i32⟩
  | .hbm, ⟨61, _⟩ => ⟨S1x64, .i32⟩
  | .hbm, ⟨62, _⟩ => ⟨S64x64, .i32⟩
  | .hbm, ⟨63, _⟩ => ⟨S64x64, .i32⟩
  | .hbm, ⟨64, _⟩ => ⟨S64x64, .i1⟩
  | .hbm, ⟨65, _⟩ => ⟨S1x64x64x1, .i1⟩
  | .hbm, ⟨66, _⟩ => ⟨S128x1x64x32, .f32⟩
  | .hbm, ⟨67, _⟩ => ⟨S_, .f32⟩
  | .hbm, ⟨68, _⟩ => ⟨S_, .f32⟩
  | .hbm, ⟨69, _⟩ => ⟨S128x64x64x32, .i1⟩
  | .hbm, ⟨70, _⟩ => ⟨S128x64x64x32, .f32⟩
  | .hbm, ⟨71, _⟩ => ⟨S128x64x64x32, .f32⟩
  | .hbm, ⟨72, _⟩ => ⟨S128x64x64x32, .f32⟩
  | .hbm, ⟨73, _⟩ => ⟨S_, .f32⟩
  | .hbm, ⟨74, _⟩ => ⟨S128x64x32, .f32⟩
  | .hbm, ⟨75, _⟩ => ⟨S8192x32, .f32⟩
  | .hbm, ⟨76, _⟩ => ⟨S_, .f32⟩
  | .hbm, ⟨77, _⟩ => ⟨S8192x64, .f32⟩
  | .hbm, ⟨78, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Kernel15.lean ====
abbrev S2x2048x128 : Shape := ⟨3, ![2, 2048, 128]⟩
abbrev S2x32x128 : Shape := ⟨3, ![2, 32, 128]⟩
abbrev S2x32x128x128 : Shape := ⟨4, ![2, 32, 128, 128]⟩
abbrev S2x128 : Shape := ⟨2, ![2, 128]⟩
abbrev S2x128x128 : Shape := ⟨3, ![2, 128, 128]⟩
abbrev S128 : Shape := ⟨1, ![128]⟩
abbrev S2x1x4096 : Shape := ⟨3, ![2, 1, 4096]⟩
abbrev S_ : Shape := ⟨0, ![]⟩
abbrev S2x8x4096 : Shape := ⟨3, ![2, 8, 4096]⟩
abbrev S2x4096x128 : Shape := ⟨3, ![2, 4096, 128]⟩
abbrev S2x1x128 : Shape := ⟨3, ![2, 1, 128]⟩
abbrev S1x128 : Shape := ⟨2, ![1, 128]⟩
abbrev S1x2048x128 : Shape := ⟨3, ![1, 2048, 128]⟩
abbrev S1x8x4096 : Shape := ⟨3, ![1, 8, 4096]⟩
abbrev S1x4096x128 : Shape := ⟨3, ![1, 4096, 128]⟩
abbrev S1x1x128 : Shape := ⟨3, ![1, 1, 128]⟩
abbrev S1x128x128 : Shape := ⟨3, ![1, 128, 128]⟩
abbrev S8x4096 : Shape := ⟨2, ![8, 4096]⟩
abbrev S4096x128 : Shape := ⟨2, ![4096, 128]⟩
abbrev S8x128 : Shape := ⟨2, ![8, 128]⟩
abbrev S2048x128 : Shape := ⟨2, ![2048, 128]⟩
abbrev S128x128 : Shape := ⟨2, ![128, 128]⟩
abbrev S2048 : Shape := ⟨1, ![2048]⟩
abbrev S2048x1 : Shape := ⟨2, ![2048, 1]⟩

abbrev nBuf : Space → Nat
  | .hbm => 19
  | .vmem => 17
  | .smem => 0
  | _ => 0

abbrev bufTy : (tb : Table) → Fin (tcTables nBuf tb) → BufTy
  | .hbm, ⟨0, _⟩ => ⟨S2x2048x128, .f32⟩
  | .hbm, ⟨1, _⟩ => ⟨S2x2048x128, .f32⟩
  | .hbm, ⟨2, _⟩ => ⟨S2x32x128, .f32⟩
  | .hbm, ⟨3, _⟩ => ⟨S2x32x128x128, .f32⟩
  | .hbm, ⟨4, _⟩ => ⟨S2x128, .f32⟩
  | .hbm, ⟨5, _⟩ => ⟨S2x128x128, .f32⟩
  | .hbm, ⟨6, _⟩ => ⟨S2x128, .f32⟩
  | .hbm, ⟨7, _⟩ => ⟨S128, .f32⟩
  | .hbm, ⟨8, _⟩ => ⟨S2x1x4096, .f32⟩
  | .hbm, ⟨9, _⟩ => ⟨S_, .i32⟩
  | .hbm, ⟨10, _⟩ => ⟨S_, .f32⟩
  | .hbm, ⟨11, _⟩ => ⟨S2x8x4096, .f32⟩
  | .hbm, ⟨12, _⟩ => ⟨S2x4096x128, .f32⟩
  | .hbm, ⟨13, _⟩ => ⟨S2x4096x128, .bf16⟩
  | .hbm, ⟨14, _⟩ => ⟨S2x128x128, .bf16⟩
  | .hbm, ⟨15, _⟩ => ⟨S2x1x128, .f32⟩
  | .hbm, ⟨16, _⟩ => ⟨S2x1x128, .f32⟩
  | .hbm, ⟨17, _⟩ => ⟨S1x128, .f32⟩
  | .hbm, ⟨18, _⟩ => ⟨S2x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x8x4096, .f32⟩
  | .local _ .vmem, ⟨5, _⟩ => ⟨S1x8x4096, .f32⟩
  | .local _ .vmem, ⟨6, _⟩ => ⟨S1x4096x128, .bf16⟩
  | .local _ .vmem, ⟨7, _⟩ => ⟨S1x4096x128, .bf16⟩
  | .local _ .vmem, ⟨8, _⟩ => ⟨S1x1x128, .f32⟩
  | .local _ .vmem, ⟨9, _⟩ => ⟨S1x1x128, .f32⟩
  | .local _ .vmem, ⟨10, _⟩ => ⟨S1x128x128, .bf16⟩
  | .local _ .vmem, ⟨11, _⟩ => ⟨S1x128x128, .bf16⟩
  | .local _ .vmem, ⟨12, _⟩ => ⟨S1x1x128, .f32⟩
  | .local _ .vmem, ⟨13, _⟩ => ⟨S1x1x128, .f32⟩
  | .local _ .vmem, ⟨14, _⟩ => ⟨S1x128, .f32⟩
  | .local _ .vmem, ⟨15, _⟩ => ⟨S1x2048x128, .f32⟩
  | .local _ .vmem, ⟨16, _⟩ => ⟨S1x2048x128, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_24 : BitVec 32 := 0#32
  let v36 : BitVec 1 := Scalar.cmpi .ne v35 c0_i32_24
  v36

def k0_cond2 (i : grid0.Coords) : BitVec 1 :=
  let arg0 : BitVec 32 := BitVec.ofNat 32 (i 0).val
  let c0_i32_25 : BitVec 32 := 0#32
  let v37 : BitVec 1 := Scalar.cmpi .ne arg0 c0_i32_25
  let v38 : BitVec 32 := Scalar.extui v37
  let c0_i32_26 : BitVec 32 := 0#32
  let v39 : BitVec 1 := Scalar.cmpi .ne v38 c0_i32_26
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S2x2048x128 : Shape := ⟨3, ![2, 2048, 128]⟩
abbrev S2x32x128 : Shape := ⟨3, ![2, 32, 128]⟩
abbrev S2x32x128x128 : Shape := ⟨4, ![2, 32, 128, 128]⟩
abbrev S2x128 : Shape := ⟨2, ![2, 128]⟩
abbrev S2x128x128 : Shape := ⟨3, ![2, 128, 128]⟩
abbrev S128 : Shape := ⟨1, ![128]⟩
abbrev S2x4096 : Shape := ⟨2, ![2, 4096]⟩
abbrev S2x4096x128 : Shape := ⟨3, ![2, 4096, 128]⟩
abbrev S2x1x128 : Shape := ⟨3, ![2, 1, 128]⟩
abbrev S_ : Shape := ⟨0, ![]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x128, .f32⟩
  | .hbm, ⟨1, _⟩ => ⟨S2x2048x128, .f32⟩
  | .hbm, ⟨2, _⟩ => ⟨S2x32x128, .f32⟩
  | .hbm, ⟨3, _⟩ => ⟨S2x32x128x128, .f32⟩
  | .hbm, ⟨4, _⟩ => ⟨S2x128, .f32⟩
  | .hbm, ⟨5, _⟩ => ⟨S2x128x128, .f32⟩
  | .hbm, ⟨6, _⟩ => ⟨S2x128, .f32⟩
  | .hbm, ⟨7, _⟩ => ⟨S128, .f32⟩
  | .hbm, ⟨8, _⟩ => ⟨S2x4096, .f32⟩
  | .hbm, ⟨9, _⟩ => ⟨S2x4096x128, .f32⟩
  | .hbm, ⟨10, _⟩ => ⟨S2x128, .f32⟩
  | .hbm, ⟨11, _⟩ => ⟨S2x2048x128, .f32⟩
  | .hbm, ⟨12, _⟩ => ⟨S2x1x128, .f32⟩
  | .hbm, ⟨13, _⟩ => ⟨S2x2048x128, .f32⟩
  | .hbm, ⟨14, _⟩ => ⟨S2x2048x128, .f32⟩
  | .hbm, ⟨15, _⟩ => ⟨S2x1x128, .f32⟩
  | .hbm, ⟨16, _⟩ => ⟨S2x2048x128, .f32⟩
  | .hbm, ⟨17, _⟩ => ⟨S2x2048x128, .f32⟩
  | .hbm, ⟨18, _⟩ => ⟨S2x2048x128, .f32⟩
  | .hbm, ⟨19, _⟩ => ⟨S2x2048x128, .f32⟩
  | .hbm, ⟨20, _⟩ => ⟨S_, .f32⟩
  | .hbm, ⟨21, _⟩ => ⟨S2x2048x128, .f32⟩
  | .hbm, ⟨22, _⟩ => ⟨S2x2048x128, .f32⟩
  | .hbm, ⟨23, _⟩ => ⟨S_, .f32⟩
  | .hbm, ⟨24, _⟩ => ⟨S2x2048x128, .f32⟩
  | .hbm, ⟨25, _⟩ => ⟨S2x2048x128, .f32⟩
  | .hbm, ⟨26, _⟩ => ⟨S2x2048x128, .f32⟩
  | .hbm, ⟨27, _⟩ => ⟨S2x2048x128, .f32⟩
  | .hbm, ⟨28, _⟩ => ⟨S2x1x128, .f32⟩
  | .hbm, ⟨29, _⟩ => ⟨S2x2048x128, .f32⟩
  | .hbm, ⟨30, _⟩ => ⟨S2x2048x128, .f32⟩
  | .hbm, ⟨31, _⟩ => ⟨S1x2048x128, .f32⟩
  | .hbm, ⟨32, _⟩ => ⟨S2048x128, .f32⟩
  | .hbm, ⟨33, _⟩ => ⟨S1x2048x128, .f32⟩
  | .hbm, ⟨34, _⟩ => ⟨S2048x128, .f32⟩
  | .hbm, ⟨35, _⟩ => ⟨S2048x128, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x128, .f32⟩
  | .hbm, ⟨47, _⟩ => ⟨S2048x128, .f32⟩
  | .hbm, ⟨48, _⟩ => ⟨S1x128, .f32⟩
  | .hbm, ⟨49, _⟩ => ⟨S2048x128, .f32⟩
  | .hbm, ⟨50, _⟩ => ⟨S2048x128, .f32⟩
  | .hbm, ⟨51, _⟩ => ⟨S1x2048x128, .f32⟩
  | .hbm, ⟨52, _⟩ => ⟨S1x2048x128, .f32⟩
  | .hbm, ⟨53, _⟩ => ⟨S2x2048x128, .f32⟩
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Proof.AttnRank.lean ====
module

public import proofs.«01_k».proof.Defs
public import Idealize.ShloMosaic.Lib.SortPrefix
public import Idealize.ShloMosaic.Lib.Pipeline.ValueKit.Point

@[expose] public section

noncomputable section

namespace Cert.AttnCmp

open Idealize.ShloMosaic

variable {n : ℕ}

/-- Position `p` precedes position `s` in the order "greater entry first, then lower position". -/
def Ahead (f : Fin n → EReal) (p s : Fin n) : Prop := f s < f p ∨ (f p = f s ∧ p < s)

/-- How many positions precede `s`. -/
def rank (f : Fin n → EReal) (s : Fin n) : ℕ := by
  classical exact (Finset.univ.filter fun p => Ahead f p s).card

/-- The order as a comparator. -/
def ahead (f : Fin n → EReal) (p s : Fin n) : Bool := by
  classical exact decide (Ahead f p s)

theorem ahead_iff (f : Fin n → EReal) (p s : Fin n) : ahead f p s = true ↔ Ahead f p s := by
  unfold ahead; simp

theorem ahead_strict (f : Fin n → EReal) : StrictTotalBefore (ahead f) where
  irrefl a := by
    rw [← Bool.not_eq_true, ahead_iff]
    rintro (h | ⟨_, h⟩) <;> exact lt_irrefl _ h
  trans a b c hab hbc := by
    rw [ahead_iff] at *
    rcases hab with h | ⟨e, l⟩ <;> rcases hbc with h' | ⟨e', l'⟩
    · exact Or.inl (h'.trans h)
    · exact Or.inl (e' ▸ h)
    · exact Or.inl (e ▸ h')
    · exact Or.inr ⟨e.trans e', l.trans l'⟩
  total a b hne := by
    rw [ahead_iff, ahead_iff]
    rcases lt_trichotomy (f a) (f b) with h | h | h
    · exact Or.inr (Or.inl h)
    · rcases lt_or_gt_of_ne hne with l | l
      · exact Or.inl (Or.inr ⟨h, l⟩)
      · exact Or.inr (Or.inr ⟨h.symm, l⟩)
    · exact Or.inl (Or.inl h)

/-- A stable sort by the entry alone is the sort by entry and position: an insertion compares only a later position with an
    earlier one. -/
theorem stableSort_entry (f : Fin n → EReal) (B : Fin n → Fin n → Bool) (hB : ∀ a b, B a b = true ↔ f b < f a)
    (l : List (Fin n)) (hl : l.Pairwise (· < ·)) : stableSort B l = stableSort (ahead f) l := by
  induction l with
  | nil => rfl
  | cons a l ih =>
    rw [List.pairwise_cons] at hl
    unfold stableSort
    rw [ih hl.2]
    refine insertBefore_congr B (ahead f) a _ fun b hb => ?_
    have hb' : b ∈ l := (perm_stableSort (ahead f) l).mem_iff.mp hb
    have hlt := hl.1 b hb'
    rw [Bool.eq_iff_iff, hB, ahead_iff]
    refine ⟨Or.inl, ?_⟩
    rintro (h | ⟨_, h⟩)
    · exact h
    · exact absurd h (not_lt_of_gt hlt)

theorem sortedFrom_entry (f : Fin n → EReal) (B : Fin n → Fin n → Bool) (hB : ∀ a b, B a b = true ↔ f b < f a) :
    sortedFrom B = sortedFrom (ahead f) := by
  funext k
  unfold sortedFrom
  have e : sortPositions n B = sortPositions n (ahead f) :=
    stableSort_entry f B hB (List.finRange n) (List.pairwise_lt_finRange n)
  rw [List.get_of_eq e]
  rfl

/-- Along the sort, an earlier place holds a position that precedes a later place's. -/
theorem ahead_sorted (f : Fin n → EReal) (i j : Fin n) :
    ahead f (sortedFrom (ahead f) i) (sortedFrom (ahead f) j) = true ↔ i < j := by
  have hS : (sortPositions n (ahead f)).Pairwise fun a b => ahead f b a = false :=
    (ahead_strict f).sorted_stableSort (List.finRange n)
  have key : ∀ i j : Fin n, i < j → ahead f (sortedFrom (ahead f) i) (sortedFrom (ahead f) j) = true := by
    intro i j hij
    have h1 : ahead f (sortedFrom (ahead f) j) (sortedFrom (ahead f) i) = false := by
      unfold sortedFrom
      exact List.pairwise_iff_get.mp hS _ _ (Fin.mk_lt_mk.mpr hij)
    rcases (ahead_strict f).total (sortedFrom (ahead f) i) (sortedFrom (ahead f) j)
      (fun e => absurd (sortedFrom_injective _ e) (ne_of_lt hij)) with h | h
    · exact h
    · rw [h1] at h; exact absurd h (by decide)
  refine ⟨fun h => ?_, key i j⟩
  rcases lt_trichotomy i j with l | l | l
  · exact l
  · subst l; rw [(ahead_strict f).irrefl] at h; exact absurd h (by decide)
  · have := (ahead_strict f).asymm _ _ (key j i l); rw [this] at h; exact absurd h (by decide)

theorem rank_sorted (f : Fin n → EReal) (k : Fin n) : rank f (sortedFrom (ahead f) k) = k.val := by
  classical
  unfold rank
  have hbij : Function.Bijective (sortedFrom (ahead f)) := ⟨sortedFrom_injective _, sortedFrom_surjective _⟩
  have e : (Finset.univ.filter fun p => Ahead f p (sortedFrom (ahead f) k))
      = (Finset.Iio k).map ⟨sortedFrom (ahead f), hbij.1⟩ := by
    ext p
    obtain ⟨i, rfl⟩ := hbij.2 p
    simp only [Finset.mem_filter, Finset.mem_univ, true_and, Finset.mem_map, Finset.mem_Iio, Function.Embedding.coeFn_mk]
    rw [← ahead_iff, ahead_sorted]
    constructor
    · exact fun h => ⟨i, h, rfl⟩
    · rintro ⟨j, hj, hji⟩
      exact hbij.1 hji ▸ hj
  rw [e, Finset.card_map, Fin.card_Iio]

/-- The first sixteen places of the stable sort hold exactly the positions that fewer than sixteen others precede. -/
theorem mem_top (f : Fin n → EReal) (B : Fin n → Fin n → Bool) (hB : ∀ a b, B a b = true ↔ f b < f a) (s : Fin n)
    (hn : 16 ≤ n) : (∃ k : Fin 16, sortedFrom B ⟨k.val, by omega⟩ = s) ↔ rank f s < 16 := by
  rw [sortedFrom_entry f B hB]
  constructor
  · rintro ⟨k, rfl⟩
    rw [rank_sorted]; exact k.isLt
  · intro h
    obtain ⟨i, rfl⟩ := sortedFrom_surjective (ahead f) s
    rw [rank_sorted] at h
    exact ⟨⟨i.val, h⟩, rfl⟩

end Cert.AttnCmp
-- ==== Proof.AttnSoftmax.lean ====
module

public import proofs.«01_k».proof.Defs
public import Idealize.ShloMosaic.Lib.Pipeline.ValueKit.Point

@[expose] public section

noncomputable section

namespace Cert.AttnCmp

open Idealize.ShloMosaic

/-- A score, or −∞ where the block has not ended by position `T`. -/
def masked (l : Fin 127 → EReal) (T : ℕ) (c : Fin 127) : EReal :=
  Scalar.select (BitVec.ofBool (decide (16 * c.val + 31 ≤ T))) (l c) ⊥

/-- The masked softmax over the 127 compressed blocks, the masked places multiplied by zero. -/
def prob (l : Fin 127 → EReal) (T : ℕ) (c : Fin 127) : EReal :=
  Ideal.div (Ideal.exp (masked l T c - Finset.univ.fold max ⊥ (masked l T)))
    (∑ x : Fin 127, Ideal.exp (masked l T x - Finset.univ.fold max ⊥ (masked l T)))
    * Scalar.select (BitVec.ofBool (decide (16 * c.val + 31 ≤ T))) 1 0

theorem exp_bot_sub (x : EReal) : Ideal.exp (⊥ - x) = 0 := by
  rw [EReal.bot_sub]; rfl

theorem fold_max_pad (f : Fin 128 → EReal) (h : f (Fin.last 127) = ⊥) :
    Finset.univ.fold max ⊥ f = Finset.univ.fold max ⊥ fun c : Fin 127 => f c.castSucc := by
  show Finset.univ.sup f = Finset.univ.sup fun c : Fin 127 => f c.castSucc
  apply le_antisymm
  · refine Finset.sup_le fun c _ => ?_
    induction c using Fin.lastCases with
    | last => rw [h]; exact bot_le
    | cast c => exact Finset.le_sup (f := fun c : Fin 127 => f c.castSucc) (Finset.mem_univ c)
  · exact Finset.sup_le fun c _ => Finset.le_sup (f := f) (Finset.mem_univ c.castSucc)

/-- The softmax over 128 columns whose last is masked agrees with the one over 127. -/
theorem softmax_pad (l : Fin 128 → EReal) (mk : Fin 128 → BitVec 1) (T : ℕ)
    (hc : ∀ c : Fin 127, mk c.castSucc = BitVec.ofBool (decide (16 * c.val + 31 ≤ T))) (hl : mk (Fin.last 127) = 0#1)
    (c : Fin 127) :
    Ideal.div (Ideal.exp (Scalar.select (mk c.castSucc) (l c.castSucc) ⊥
        - Finset.univ.fold max ⊥ fun x : Fin 128 => Scalar.select (mk x) (l x) ⊥))
       (∑ x : Fin 128, Ideal.exp (Scalar.select (mk x) (l x) ⊥
        - Finset.univ.fold max ⊥ fun x : Fin 128 => Scalar.select (mk x) (l x) ⊥)) * Scalar.select (mk c.castSucc) 1 0
      = prob (fun c => l c.castSucc) T c := by
  have hlast : Scalar.select (mk (Fin.last 127)) (l (Fin.last 127)) (⊥ : EReal) = ⊥ := by rw [hl]; rfl
  have hm : ∀ c : Fin 127, Scalar.select (mk c.castSucc) (l c.castSucc) (⊥ : EReal) = masked (fun c => l c.castSucc) T c := by
    intro c; rw [hc]; rfl
  rw [fold_max_pad _ hlast, Fin.sum_univ_castSucc, hlast, exp_bot_sub, add_zero]
  simp only [hm, hc]
  rfl

/-- A sum against the 128 columns, the last of which carries weight zero. -/
theorem sum_pad (p : Fin 128 → EReal) (v : Fin 128 → EReal) (hl : p (Fin.last 127) = 0) :
    ∑ x, p x * v x = ∑ x : Fin 127, p x.castSucc * v x.castSucc := by
  rw [Fin.sum_univ_castSucc, hl, zero_mul, add_zero]

/-- Whether compressed block `c` overlaps selection block `s`, as the number one or zero. -/
def overlap (c s : ℕ) : EReal :=
  Scalar.select (BitVec.ofBool (decide (16 * c < 64 * s + 64) && decide (64 * s < 16 * c + 32))) 1 0

/-- A selection block's score: five where it is forced, −1 where it begins after the position, else its importance. -/
def score (imp : Fin 32 → EReal) (T : ℕ) (s : Fin 32) : EReal :=
  Scalar.select (IntOp.ori (IntOp.ori (IntOp.cmpi .eq (BitVec.ofNat 32 s.val) 0#32)
      (IntOp.cmpi .eq (BitVec.ofNat 32 s.val) (BitVec.ofNat 32 (T / 64))))
      (IntOp.cmpi .eq (BitVec.ofNat 32 s.val) (IntOp.subi (BitVec.ofNat 32 (T / 64)) 1#32)))
    (Ideal.ofBits .f32 0x40A00000#32)
    (Scalar.select (IntOp.cmpi .sle (IntOp.muli (BitVec.ofNat 32 s.val) 64#32) (BitVec.ofNat 32 T)) (imp s)
      (Ideal.ofBits .f32 0xBF800000#32))

end Cert.AttnCmp
-- ==== Proof.AttnRef.lean ====
module

public import proofs.«01_k».proof.Defs
public import proofs.«01_k».proof.Proof.Gen.ReferenceIdeal.Read
public import proofs.«01_k».proof.Proof.AttnRank
public import proofs.«01_k».proof.Proof.AttnSoftmax
public import Idealize.ShloMosaic.Lib.Pipeline.ValueKit.Point
public import Idealize.ShloMosaic.Lib.WordCmp

@[expose] public section

noncomputable section

namespace Cert.AttnCmp

open Cert.ReferenceIdeal Cert.ReferenceIdeal.Read Idealize.ShloMosaic Idealize.SL.Sem

variable (a0 : S8192x2048.Idx → EReal) (a1 : S2x4x4x128x128.Idx → EReal) (a2 : S4x4x2048x128.Idx → EReal)
  (a3 : S3x4x4x2048x4.Idx → EReal)
theorem r34 (b : Fin 4) (q : Fin 2048) (h : Fin 4) (g : Fin 4) (c : Fin 127) :
    val_main_v34 (F := Ideal) a0 a1 a2 (ix5 b q h g c)
      = Scalar.select (val_main_v32 (F := Ideal) (ix2 q c)) (val_main_v30 (F := Ideal) a0 a1 a2 (ix5 b q h g c)) (Ideal.ofBits .f32 0xFF800000#32) := by
  pointwise [val_main_v34, val_main_v33, val_main_call0_v0, val_main_call0_v1, val_main_call0_v2, val_main_cst]
  rfl

theorem r37 (b : Fin 4) (q : Fin 2048) (h : Fin 4) (g : Fin 4) :
    val_main_v37 (F := Ideal) a0 a1 a2 (ix4 b q h g)
      = max (Ideal.ofBits FTy.f32 0xFF800000#32) (Finset.univ.fold max (Ideal.ofBits FTy.f32 0xFF800000#32) fun c : Fin 127 =>
          val_main_v34 (F := Ideal) a0 a1 a2 (ix5 b q h g c)) := by
  rw [val_main_v37_apply, val_main_v36_apply, val_main_cst_3_apply]
  pointwise [val_main_v35, val_main_cst_2]

theorem r42 (b : Fin 4) (q : Fin 2048) (h : Fin 4) (g : Fin 4) :
    val_main_v42 (F := Ideal) a0 a1 a2 (ix4 b q h g) = ∑ c : Fin 127, val_main_v41 (F := Ideal) a0 a1 a2 (ix5 b q h g c) := by
  pointwise [val_main_v42, val_main_cst_4]

theorem r41 (b : Fin 4) (q : Fin 2048) (h : Fin 4) (g : Fin 4) (c : Fin 127) :
    val_main_v41 (F := Ideal) a0 a1 a2 (ix5 b q h g c) = Ideal.exp (val_main_v34 (F := Ideal) a0 a1 a2 (ix5 b q h g c) -
       val_main_v37 (F := Ideal) a0 a1 a2 (ix4 b q h g)) := by
  pointwise [val_main_v41, val_main_v40, val_main_v39, val_main_v38]

theorem r48 (b : Fin 4) (q : Fin 2048) (h : Fin 4) (g : Fin 4) (c : Fin 127) :
    val_main_v48 (F := Ideal) a0 a1 a2 (ix5 b q h g c)
      = Ideal.div (val_main_v41 (F := Ideal) a0 a1 a2 (ix5 b q h g c)) (val_main_v42 (F := Ideal) a0 a1 a2 (ix4 b q h g))
        * FloatOps.uitofp (F := Ideal) FTy.f32 (val_main_v32 (F := Ideal) (ix2 q c)) := by
  pointwise [val_main_v48, val_main_v47, val_main_v46, val_main_v45, val_main_v44, val_main_v43, val_main_v33]

/-- The reference's score of compressed block `c` for a query position and head. -/
def logit (b : Fin 4) (q : Fin 2048) (h : Fin 4) (g : Fin 4) (c : Fin 127) : EReal :=
  ∑ x : Fin 128, a1 (ix5 0 h b ⟨c.val, by omega⟩ x) * a0 (ix2 ⟨b.val * 2048 + q.val, by omega⟩ ⟨h.val * 512 + g.val * 128 + x.val, by omega⟩)
    + a2 (ix4 h g q ⟨c.val, by omega⟩)

theorem r30 (b : Fin 4) (q : Fin 2048) (h : Fin 4) (g : Fin 4) (c : Fin 127) :
    val_main_v30 (F := Ideal) a0 a1 a2 (ix5 b q h g c) = logit a0 a1 a2 b q h g c := by
  unfold logit
  pointwise [val_main_v30, val_main_v24, val_main_v25, val_main_v26, val_main_v27, val_main_v28, val_main_v29, val_main_v0, val_main_v1,
    val_main_v2, val_main_v3, val_main_v8, val_main_v9]

theorem r32 (q : Fin 2048) (c : Fin 127) :
    val_main_v32 (F := Ideal) (ix2 q c) = BitVec.ofBool (decide (16 * c.val + 31 ≤ q.val)) := by
  pointwise [val_main_v32, val_main_v23, val_main_v31, val_main_c_1, val_main_v22, val_main_v21, val_main_v20, val_main_v19, val_main_v18,
    val_main_v17, val_main_v16, val_main_v15, val_main_c, val_main_c_0, val_main_v13, val_main_v14]
  rw [WordCmp.muli_ofNat, WordCmp.addi_ofNat, WordCmp.cmpi_sge_zero]
  have e : ((IntOp.subi (BitVec.ofNat 32 q.val) (BitVec.ofNat 32 (c.val * 16 + 31))).toNat < 2 ^ (32 - 1)) = (16 * c.val + 31 ≤ q.val) := by
    unfold IntOp.subi
    rw [BitVec.toNat_sub, BitVec.toNat_ofNat, BitVec.toNat_ofNat, eq_iff_iff]
    omega
  simp only [e]

theorem ninf : (Ideal.ofBits FTy.f32 4286578688#32 : EReal) = ⊥ := by simp [Ideal.ofBits, Ideal.ieee]

theorem uitofp_ofBool (p : Bool) : FloatOps.uitofp (F := Ideal) FTy.f32 (BitVec.ofBool p) = Scalar.select (BitVec.ofBool p) (1 : EReal) 0 := by
  cases p <;> simp [FloatOps.uitofp, Scalar.select]

theorem r48' (b : Fin 4) (q : Fin 2048) (h : Fin 4) (g : Fin 4) (c : Fin 127) :
    val_main_v48 (F := Ideal) a0 a1 a2 (ix5 b q h g c) = prob (logit a0 a1 a2 b q h g) q.val c := by
  have hm : ∀ c, val_main_v34 (F := Ideal) a0 a1 a2 (ix5 b q h g c) = masked (logit a0 a1 a2 b q h g) q.val c := by
    intro c; rw [r34, r32, r30, ninf]; rfl
  have h37 : val_main_v37 (F := Ideal) a0 a1 a2 (ix4 b q h g) = Finset.univ.fold max ⊥ (masked (logit a0 a1 a2 b q h g) q.val) := by
    rw [r37, ninf, max_eq_right bot_le]
    simp only [hm]
  rw [r48, r42, r32, uitofp_ofBool]
  simp only [r41, hm, h37]
  rfl

theorem r54 (i : Fin 8192) (j : Fin 2048) :
    val_main_v54 (F := Ideal) a0 a1 a2 a3 (ix2 i j) =
     (∑ x : Fin 127, a1 (ix5 1 ⟨j.val / 512, by omega⟩ ⟨i.val / 2048, by omega⟩ ⟨x.val, by omega⟩ ⟨j.val % 128, by omega⟩)
       * prob (logit a0 a1 a2 ⟨i.val / 2048, by omega⟩ ⟨i.val % 2048, by omega⟩ ⟨j.val / 512, by omega⟩ ⟨j.val / 128 % 4, by omega⟩) (i.val % 2048) x)
      * a3 (ix5 0 ⟨i.val / 2048, by omega⟩ ⟨j.val / 512, by omega⟩ ⟨i.val % 2048, by omega⟩ ⟨j.val / 128 % 4, by omega⟩) := by
  pointwise [val_main_v54, val_main_v53, val_main_v52, val_main_v51, val_main_v50, val_main_v49, val_main_v10, val_main_v11, val_main_v12,
    val_main_v4, val_main_v5, val_main_v6, val_main_v7]
  simp only [r48']

theorem r73 (c : Fin 127) (s : Fin 32) : val_main_v73 (F := Ideal) (ix2 c s) = overlap c.val s.val := by
  pointwise [val_main_v73, val_main_v72, val_main_v71, val_main_v70, val_main_v69, val_main_v68, val_main_v67, val_main_v66, val_main_v65,
    val_main_v64, val_main_v63, val_main_v62, val_main_v61, val_main_v60, val_main_v59, val_main_v58, val_main_v57, val_main_v56, val_main_v55,
    val_main_c_5, val_main_c_6, val_main_c_7, val_main_v16, val_main_v15, val_main_c, val_main_v14]
  rw [WordCmp.muli_ofNat, WordCmp.muli_ofNat, WordCmp.addi_ofNat, WordCmp.addi_ofNat, WordCmp.cmpi_slt_ofNat (by omega) (by omega),
    WordCmp.cmpi_sgt_ofNat (by omega) (by omega), WordCmp.andi_ofBool, uitofp_ofBool]
  unfold overlap
  rw [Nat.mul_comm c.val, Nat.mul_comm s.val]

/-- The importance of a selection block: the head-summed probabilities of the compressed blocks that overlap it. -/
def importance (b : Fin 4) (q : Fin 2048) (h : Fin 4) (s : Fin 32) : EReal :=
  ∑ x : Fin 127, (∑ g : Fin 4, prob (logit a0 a1 a2 b q h g) q.val x) * overlap x.val s.val

theorem r75 (b : Fin 4) (q : Fin 2048) (h : Fin 4) (s : Fin 32) :
    val_main_v75 (F := Ideal) a0 a1 a2 (ix4 b q h s) = importance a0 a1 a2 b q h s := by
  unfold importance
  pointwise [val_main_v75, val_main_v74, val_main_cst_8]
  simp only [r48', r73]

theorem r77 (q : Fin 2048) : val_main_v77 (F := Ideal) (ix1 q) = BitVec.ofNat 32 (q.val / 64) := by
  pointwise [val_main_v77, val_main_call1_v0, val_main_call1_v1, val_main_call1_v2, val_main_call1_v3, val_main_call1_v4, val_main_call1_v5,
    val_main_call1_v6, val_main_call1_v7, val_main_call1_v8, val_main_call1_v9, val_main_call1_v10, val_main_call1_v11, val_main_call1_v12,
    val_main_call1_v13, val_main_call1_c, val_main_call1_c_0, val_main_c_9, val_main_v13]
  revert q
  decide +kernel

theorem r103 (b : Fin 4) (q : Fin 2048) (h : Fin 4) (s : Fin 32) :
    val_main_v103 (F := Ideal) a0 a1 a2 (ix4 b q h s) = score (importance a0 a1 a2 b q h) q.val s := by
  unfold score
  rw [← r75, ← r77]
  pointwise [val_main_v103, val_main_call3_v0, val_main_call3_v1, val_main_call3_v2, val_main_cst_13, val_main_v102,
    val_main_call2_v0, val_main_call2_v1, val_main_call2_v2, val_main_cst_12, val_main_v101, val_main_v100, val_main_v99, val_main_v98,
    val_main_v97, val_main_v96, val_main_v95, val_main_v94, val_main_v93, val_main_v92, val_main_v91, val_main_v90, val_main_v89, val_main_v88,
    val_main_v87, val_main_v86, val_main_v85, val_main_v84, val_main_v83, val_main_v82, val_main_v81, val_main_v80, val_main_v79, val_main_v78,
    val_main_v76, val_main_c_10, val_main_c_11, val_main_v57, val_main_v56, val_main_v55, val_main_c_5, val_main_v13]
  rfl

/-- The index that a top-k holds at a place: the position the stable sort takes from. -/
theorem topK_snd {α : Type} {s t : Shape} (d : Fin s.rank) (gt : α → α → BitVec 1) (x : s.Idx → α) (h : s.Slices (fun _ => 0) t)
    (i : t.Idx) (j : s.Idx) (hj : ∀ a : Fin s.rank, (j a).val = 0 + (i (a.cast h.1.symm)).val) :
    (Host.topK t d.val gt x h).2 i
      = BitVec.ofNat 32 (sortedFrom (fun k k' => gt (x (j.along d k)) (x (j.along d k')) == 1#1) (j d)).val := by
  unfold Host.topK
  refine (extractStridedSlice_apply _ _ h _ j hj).trans ?_
  unfold Host.sort2
  rw [dif_pos d.isLt]
  show (if hd : d.val < s.rank then _ else 0#32) = _
  rw [dif_pos d.isLt]
  show BitVec.ofNat 32 ((Function.update j d _ : s.Idx) d).val = _
  rw [Function.update_self]

theorem indices_apply (b : Fin 4) (q : Fin 2048) (h : Fin 4) (k : Fin 16) :
    val_main_indices (F := Ideal) a0 a1 a2 (ix4 b q h k)
      = BitVec.ofNat 32 (sortedFrom (fun x y : Fin 32 => FloatOps.cmpfTotal (F := Ideal) (φ := .f32) .gt
          (val_main_v103 (F := Ideal) a0 a1 a2 (ix4 b q h x)) (val_main_v103 (F := Ideal) a0 a1 a2 (ix4 b q h y)) == 1#1) ⟨k.val, by omega⟩).val := by
  unfold val_main_indices
  generalize val_main_v103 (F := Ideal) a0 a1 a2 = x
  refine (topK_snd (s := S4x2048x4x32) (3 : Fin 4) _ x _ (ix4 b q h k) (ix4 b q h ⟨k.val, by omega⟩) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · have al : ∀ z : Fin 32, Shape.Idx.along (s := S4x2048x4x32) (ix4 b q h ⟨k.val, by omega⟩) (3 : Fin 4) z = ix4 b q h z := by
      intro z
      funext a
      match a with
      | ⟨0, _⟩ => rfl
      | ⟨1, _⟩ => rfl
      | ⟨2, _⟩ => rfl
      | ⟨3, _⟩ => rfl
    have e : ∀ (B B' : Fin 32 → Fin 32 → Bool) (j : Fin 32), B = B' →
        BitVec.ofNat 32 (sortedFrom B j).val = BitVec.ofNat 32 (sortedFrom B' j).val := fun B B' j h => by rw [h]
    refine e _ _ _ (funext fun y => funext fun z => ?_)
    exact congrArg₂ (fun u v => FloatOps.cmpfTotal (F := Ideal) (φ := .f32) .gt u v == 1#1) (congrArg x (al y)) (congrArg x (al z))

theorem fold_or {ι : Type} (t : Finset ι) (p : ι → Bool) :
    t.fold IntOp.ori 0#1 (fun x => BitVec.ofBool (p x)) = BitVec.ofBool (decide (∃ x ∈ t, p x = true)) := by
  classical
  induction t using Finset.induction_on with
  | empty => simp
  | insert a t ha ih =>
    rw [Finset.fold_insert ha, ih, WordCmp.ori_ofBool]
    congr 1
    rw [Bool.eq_iff_iff]
    simp

theorem r111 (b : Fin 4) (q : Fin 2048) (h : Fin 4) (s : Fin 32) :
    val_main_v111 (F := Ideal) a0 a1 a2 (ix4 b h s q)
      = Scalar.select (BitVec.ofBool (decide (rank (score (importance a0 a1 a2 b q h) q.val) s < 16))) (1 : EReal) 0 := by
  pointwise [val_main_v111, val_main_v110, val_main_v109, val_main_v108, val_main_v107, val_main_v106, val_main_v105, val_main_v104,
    val_main_c_14, val_main_v76]
  simp only [indices_apply, r103]
  generalize score (importance a0 a1 a2 b q h) q.val = f
  have hB : ∀ x y : Fin 32, (FloatOps.cmpfTotal (F := Ideal) (φ := .f32) .gt (f x) (f y) == 1#1) = true ↔ f y < f x := by
    intro x y
    show (BitVec.ofBool (decide (f y < f x)) == 1#1) = true ↔ _
    rw [beq_iff_eq, WordCmp.ofBool_decide_eq_one_iff]
  have hm := mem_top f (fun x y => FloatOps.cmpfTotal (F := Ideal) (φ := .f32) .gt (f x) (f y) == 1#1) hB s (by omega)
  have hc : ∀ x : Fin 32, IntOp.cmpi .eq (BitVec.ofNat 32 x.val) (BitVec.ofNat 32 s.val) = BitVec.ofBool (decide (x = s)) := by
    intro x
    rw [WordCmp.cmpi_eq_ofNat (by omega) (by omega)]
    simp only [Fin.ext_iff]
  simp only [hc]
  rw [fold_or, uitofp_ofBool]
  simp only [Finset.mem_univ, true_and, decide_eq_true_eq, hm]
  rw [WordCmp.select_decide]

end Cert.AttnCmp
-- ==== Proof.AttnKer.lean ====
module

public import proofs.«01_k».proof.Defs
public import proofs.«01_k».proof.Proof.Gen.KernelIdeal.Value
public import proofs.«01_k».proof.Proof.AttnRef
public import Idealize.ShloMosaic.Lib.Pipeline.ValueKit.Point

@[expose] public section

noncomputable section

namespace Cert.AttnCmp

open Cert.KernelIdeal Cert.KernelIdeal.Gen Idealize.ShloMosaic Idealize.SL.Sem

theorem rem128 : ∀ r : Fin 512, (Scalar.select
                          (IntOp.andi
                            (IntOp.xori
                              (IntOp.cmpi CmpIPredicate.slt
                                (IntOp.remsi ArithUnit.vector (BitVec.ofNat 32 r.val)
                                  (Scalar.select (Scalar.cmpi CmpIPredicate.eq 128#32 0#32) 1#32 128#32))
                                0#32)
                              (Scalar.cmpi CmpIPredicate.slt
                                (Scalar.select (Scalar.cmpi CmpIPredicate.eq 128#32 0#32) 1#32 128#32) 0#32))
                            (IntOp.cmpi CmpIPredicate.ne
                              (IntOp.remsi ArithUnit.vector (BitVec.ofNat 32 r.val)
                                (Scalar.select (Scalar.cmpi CmpIPredicate.eq 128#32 0#32) 1#32 128#32))
                              0#32))
                          (IntOp.addi
                            (IntOp.remsi ArithUnit.vector (BitVec.ofNat 32 r.val)
                              (Scalar.select (Scalar.cmpi CmpIPredicate.eq 128#32 0#32) 1#32 128#32))
                            (Scalar.select (Scalar.cmpi CmpIPredicate.eq 128#32 0#32) 1#32 128#32))
                          (IntOp.remsi ArithUnit.vector (BitVec.ofNat 32 r.val)
                            (Scalar.select (Scalar.cmpi CmpIPredicate.eq 128#32 0#32) 1#32 128#32)))
   = BitVec.ofNat 32 (r.val % 128) := by decide +kernel

/-- The kernel's mask: the block has ended by the query's position, and it is one of the 127 blocks. -/
def kmask (i : ℕ) (r c : ℕ) : BitVec 1 :=
  IntOp.andi (IntOp.cmpi .sle (IntOp.addi (IntOp.muli (BitVec.ofNat 32 c) 16#32) 31#32)
      (IntOp.addi (Scalar.addi 0#32 (Scalar.muli (BitVec.ofNat 32 i) 128#32)) (BitVec.ofNat 32 (r % 128))))
    (IntOp.cmpi .slt (BitVec.ofNat 32 c) 127#32)

theorem kmask_eq (i r c : ℕ) (hi : i < 16) (hr : r < 512) (hc : c < 128) :
    kmask i r c = BitVec.ofBool (decide (16 * c + 31 ≤ i * 128 + r % 128) && decide (c < 127)) := by
  unfold kmask
  have e1 : IntOp.addi (IntOp.muli (BitVec.ofNat 32 c) 16#32) 31#32 = BitVec.ofNat 32 (c * 16 + 31) := by
    rw [WordCmp.muli_ofNat, WordCmp.addi_ofNat]
  have e2 : IntOp.addi (Scalar.addi 0#32 (Scalar.muli (BitVec.ofNat 32 i) 128#32)) (BitVec.ofNat 32 (r % 128))
     = BitVec.ofNat 32 (0 + i * 128 + r % 128) := by
    show IntOp.addi (IntOp.addi 0#32 (IntOp.muli (BitVec.ofNat 32 i) 128#32)) (BitVec.ofNat 32 (r % 128)) = _
    rw [WordCmp.muli_ofNat, WordCmp.addi_ofNat, WordCmp.addi_ofNat]
  rw [e1, e2, WordCmp.cmpi_sle_ofNat (by omega) (by omega), WordCmp.cmpi_slt_ofNat (by omega) (by omega), WordCmp.andi_ofBool]
  have e3 : (c * 16 + 31 ≤ 0 + i * 128 + r % 128) = (16 * c + 31 ≤ i * 128 + r % 128) := by
    rw [eq_iff_iff]; omega
  simp only [e3]

theorem kp4 (v19 : FVec Ideal S512x128 .f32) (i : ℕ) (r : Fin 512) (c : Fin 128) :
   k0_pay4 v19 (Scalar.addi 0#32 (Scalar.muli (BitVec.ofNat 32 i) 128#32)) (Scalar.select (Scalar.cmpi .eq 128#32 0#32) 1#32 128#32) k0_pay3 0#32 (ix2 r c)
    = Ideal.div (Ideal.exp (Scalar.select (kmask i r c) (v19 (ix2 r c)) ⊥
        - Finset.univ.fold max ⊥ fun x : Fin 128 => Scalar.select (kmask i r x) (v19 (ix2 r x)) ⊥))
       (∑ x : Fin 128, Ideal.exp (Scalar.select (kmask i r x) (v19 (ix2 r x)) ⊥
        - Finset.univ.fold max ⊥ fun x : Fin 128 => Scalar.select (kmask i r x) (v19 (ix2 r x)) ⊥)) * Scalar.select (kmask i r c) 1 0 := by
  have eb : (Ideal.ofBits FTy.f32 4286578688#32 : EReal) = ⊥ := by simp [Ideal.ofBits, Ideal.ieee]
  have en : (Named.named (F := Ideal) (φ := FTy.f32) κ "mask" 4048155338#32 : EReal) = ⊥ := rfl
  unfold kmask
  rw [← rem128 r]
  pointwise [k0_pay3, k0_pay4, eb, en]

section
variable (v0 : Vec Ideal S128x512 .bf16) (v6 : Vec Ideal S1x1x1x128x128 .f32) (v10 v12 v14 v16 : Vec Ideal S1x1x128x128 .f32)
  (r : Fin 128) (c : Fin 128)

theorem kp2_0 : k0_pay2 v0 v6 v10 v12 v14 v16 (ix2 ⟨r.val, by omega⟩ c)
    = ∑ x : Fin 128, v0 (ix2 r ⟨x.val, by omega⟩) * v6 (ix5 0 0 0 c x) + v10 (ix4 0 0 r c) := by
  pointwise [k0_pay2]
theorem kp2_1 : k0_pay2 v0 v6 v10 v12 v14 v16 (ix2 ⟨128 + r.val, by omega⟩ c)
    = ∑ x : Fin 128, v0 (ix2 r ⟨128 + x.val, by omega⟩) * v6 (ix5 0 0 0 c x) + v12 (ix4 0 0 r c) := by
  pointwise [k0_pay2]
theorem kp2_2 : k0_pay2 v0 v6 v10 v12 v14 v16 (ix2 ⟨256 + r.val, by omega⟩ c)
    = ∑ x : Fin 128, v0 (ix2 r ⟨256 + x.val, by omega⟩) * v6 (ix5 0 0 0 c x) + v14 (ix4 0 0 r c) := by
  pointwise [k0_pay2]
  have h1 : ¬ 256 + r.val < 128 := by omega
  have h2 : ¬ 256 + r.val - 128 < 128 := by omega
  have h3 :  256 + r.val - 128 - 128 < 128 := by omega
  have e : 256 + r.val - 128 - 128 = r.val := by omega
  simp only [dif_neg h1, dif_neg h2, dif_pos h3, e, Fin.eta, dif_pos r.isLt]
theorem kp2_3 : k0_pay2 v0 v6 v10 v12 v14 v16 (ix2 ⟨384 + r.val, by omega⟩ c)
    = ∑ x : Fin 128, v0 (ix2 r ⟨384 + x.val, by omega⟩) * v6 (ix5 0 0 0 c x) + v16 (ix4 0 0 r c) := by
  pointwise [k0_pay2]
  have h1 : ¬ 384 + r.val < 128 := by omega
  have h2 : ¬ 384 + r.val - 128 < 128 := by omega
  have h3 : ¬ 384 + r.val - 128 - 128 < 128 := by omega
  have e : 384 + r.val - 128 - 128 - 128 = r.val := by omega
  simp only [dif_neg h1, dif_neg h2, dif_neg h3, e, Fin.eta]
end

section
variable (v : FVec Ideal S512x128 .f32) (w : Vec Ideal S1x1x1x128x4 .f32) (r : Fin 128) (d : Fin 128)
theorem kp6_0 : k0_pay6 v w (ix2 r ⟨d.val, by omega⟩) = v (ix2 ⟨r.val, by omega⟩ d) * w (ix5 0 0 0 r 0) := by
  pointwise [k0_pay6]
theorem kp6_1 : k0_pay6 v w (ix2 r ⟨128 + d.val, by omega⟩) = v (ix2 ⟨128 + r.val, by omega⟩ d) * w (ix5 0 0 0 r 1) := by
  pointwise [k0_pay6]
theorem kp6_2 : k0_pay6 v w (ix2 r ⟨256 + d.val, by omega⟩) = v (ix2 ⟨256 + r.val, by omega⟩ d) * w (ix5 0 0 0 r 2) := by
  pointwise [k0_pay6]
  have h1 : ¬ 256 + r.val < 128 := by omega
  have h2 : ¬ 256 + r.val - 128 < 128 := by omega
  have h3 :  256 + r.val - 128 - 128 < 128 := by omega
  have e : 256 + r.val - 128 - 128 = r.val := by omega
  have g1 : ¬ 256 + d.val < 128 := by omega
  have g2 : ¬ 256 + d.val - 128 < 128 := by omega
  have g3 :  256 + d.val - 128 - 128 < 128 := by omega
  have e' : 256 + d.val - 128 - 128 = d.val := by omega
  simp only [dif_neg h1, dif_neg h2, dif_pos h3, e, dif_neg g1, dif_neg g2, dif_pos g3, e', Fin.eta, dif_pos r.isLt, dif_pos d.isLt]
theorem kp6_3 : k0_pay6 v w (ix2 r ⟨384 + d.val, by omega⟩) = v (ix2 ⟨384 + r.val, by omega⟩ d) * w (ix5 0 0 0 r 3) := by
  pointwise [k0_pay6]
  have h1 : ¬ 384 + r.val < 128 := by omega
  have h2 : ¬ 384 + r.val - 128 < 128 := by omega
  have h3 : ¬ 384 + r.val - 128 - 128 < 128 := by omega
  have e : 384 + r.val - 128 - 128 - 128 = r.val := by omega
  have g1 : ¬ 384 + d.val < 128 := by omega
  have g2 : ¬ 384 + d.val - 128 < 128 := by omega
  have g3 : ¬ 384 + d.val - 128 - 128 < 128 := by omega
  have e' : 384 + d.val - 128 - 128 - 128 = d.val := by omega
  simp only [dif_neg h1, dif_neg h2, dif_neg h3, e, dif_neg g1, dif_neg g2, dif_neg g3, e', Fin.eta]
theorem kp7 : k0_pay7 v (ix2 r d) = v (ix2 ⟨r.val, by omega⟩ d) + v (ix2 ⟨128 + r.val, by omega⟩ d) + v (ix2 ⟨256 + r.val, by omega⟩ d) + v (ix2 ⟨384 + r.val, by omega⟩ d) := by
  pointwise [k0_pay7]
end

theorem kp5 (v19 : FVec Ideal S512x128 .f32) (a b : BitVec 32) (v26) (z : BitVec 32) (w : Vec Ideal S1x1x1x128x128 .f32) (r : Fin 512) (d : Fin 128) :
    k0_pay5 v19 a b v26 z w (ix2 r d) = ∑ x : Fin 128, k0_pay4 v19 a b v26 z (ix2 r x) * w (ix5 0 0 0 x d) := by
  pointwise [k0_pay5]

theorem kp9 (v : FVec Ideal S128x128 .f32) (s : Fin 32) (j : Fin 128) :
    k0_pay9 v k0_pay8 (ix2 s j) = ∑ x : Fin 127, v (ix2 j ⟨x.val, by omega⟩) * overlap x.val s.val := by
  have e : k0_pay9 v k0_pay8 (ix2 s j) = ∑ x : Fin 128, Scalar.select (k0_pay8 (ix2 s x)) 1 0 * v (ix2 j x) := by
    pointwise [k0_pay9]
  have e8 : ∀ x : Fin 128, k0_pay8 (ix2 s x) = BitVec.ofBool (decide (16 * x.val < 64 * s.val + 64) && decide (64 * s.val < 16 * x.val + 32) && decide (x.val < 127)) := by
    intro x
    pointwise [k0_pay8]
    rw [WordCmp.muli_ofNat, WordCmp.muli_ofNat, WordCmp.addi_ofNat, WordCmp.addi_ofNat, WordCmp.cmpi_slt_ofNat (by omega) (by omega),
      WordCmp.cmpi_sgt_ofNat (by omega) (by omega), WordCmp.cmpi_slt_ofNat (by omega) (by omega), WordCmp.cmpi_slt_ofNat (by omega) (by omega),
      WordCmp.andi_ofBool, WordCmp.andi_ofBool, WordCmp.andi_ofBool, Nat.mul_comm x.val, Nat.mul_comm s.val, decide_eq_true s.isLt, Bool.and_true]
  rw [e, Fin.sum_univ_castSucc (n := 127)]
  have l : (Scalar.select (k0_pay8 (ix2 s (Fin.last 127))) (1 : EReal) 0) = 0 := by
    rw [e8]
    simp [Scalar.select]
  rw [l, zero_mul, add_zero]
  refine Finset.sum_congr rfl fun x _ => ?_
  rw [mul_comm, e8]
  unfold overlap
  rw [show decide ((Fin.castSucc x).val < 127) = true from decide_eq_true x.isLt, Bool.and_true]
  rfl

/-- The position of a query as the kernel counts it, and the selection block it lies in. -/
theorem cur64 : ∀ w : Fin 2048, (let v : BitVec 32 := BitVec.ofNat 32 w.val
    Scalar.select (IntOp.andi (IntOp.cmpi .ne (IntOp.subi (BitVec.setWidth 32 (IntOp.cmpi .sgt v 0#32)) (BitVec.setWidth 32 (IntOp.cmpi .slt v 0#32)))
       (Scalar.subi (Scalar.extui (Scalar.cmpi .sgt 64#32 0#32)) (Scalar.extui (Scalar.cmpi .slt 64#32 0#32))))
        (IntOp.cmpi .ne (IntOp.remsi .vector v 64#32) 0#32))
      (IntOp.subi (IntOp.divsi .vector v 64#32) 1#32) (IntOp.divsi .vector v 64#32)) = BitVec.ofNat 32 (w.val / 64) := by decide +kernel

theorem kp13 (v : FVec Ideal S32x128 .f32) (i : Fin 16) (s : Fin 32) (j : Fin 128) :
    k0_pay13 v (k0_pay10 (BitVec.ofNat 32 i.val)) (iota .tc S32x128 32 [0] iota_S32x128_d0_w32) (k0_pay11 (BitVec.ofNat 32 i.val)) k0_pay12 (ix2 s j)
     = score (fun s => v (ix2 s j)) (i.val * 128 + j.val) s := by
  have hw : IntOp.addi (Scalar.addi 0#32 (Scalar.muli (BitVec.ofNat 32 i.val) 128#32)) (BitVec.ofNat 32 j.val) = BitVec.ofNat 32 (i.val * 128 + j.val) := by
    show IntOp.addi (IntOp.addi 0#32 (IntOp.muli (BitVec.ofNat 32 i.val) 128#32)) (BitVec.ofNat 32 j.val) = _
    rw [WordCmp.muli_ofNat, WordCmp.addi_ofNat, WordCmp.addi_ofNat, Nat.zero_add]
  have hs : IntOp.cmpi .slt (BitVec.ofNat 32 s.val) 32#32 = 1#1 := by
    rw [WordCmp.cmpi_slt_ofNat (by omega) (by omega), decide_eq_true s.isLt]; rfl
  have hc := cur64 ⟨i.val * 128 + j.val, by omega⟩
  dsimp only at hc
  unfold score
  pointwise [k0_pay13, k0_pay11, k0_pay12, k0_pay10]
  rw [hw, hs, hc]
  rfl

/-- One when block `p` goes before block `s` in a column of scores, zero otherwise. -/
def ahd (w : FVec Ideal S32x128 .f32) (j : Fin 128) (s p : Fin 32) : EReal :=
  if w (ix2 s j) < w (ix2 p j) then 1
  else Scalar.select (IntOp.andi (BitVec.ofBool (decide (w (ix2 p j) = w (ix2 s j)))) (IntOp.cmpi .sgt (BitVec.ofNat 32 s.val) (BitVec.ofNat 32 p.val))) 1 0

section
variable (v119 : FVec Ideal S32x128 .f32) (v124 : IVec S32x128 32) (v157 : IVec S32x128 1) (v159 : IVec S32x128 32)
  (w acc : FVec Ideal S32x128 .f32) (s : Fin 32) (j : Fin 128)

theorem q14 (h : k0_pay13 v119 v124 (iota .tc S32x128 32 [0] iota_S32x128_d0_w32) v157 v159 = w) :
    k0_pay14 v119 v124 (iota .tc S32x128 32 [0] iota_S32x128_d0_w32) v157 v159 (ix2 s j) = 0 + ahd w j s 0 + ahd w j s 1 := by
  unfold k0_pay14
  rw [h]
  pointwise []
  rfl

theorem q18 (h : k0_pay13 v119 v124 (iota .tc S32x128 32 [0] iota_S32x128_d0_w32) v157 v159 = w) :
    k0_pay18 (iota .tc S32x128 32 [0] iota_S32x128_d0_w32) w acc (k0_pay16 v119 v124 (iota .tc S32x128 32 [0] iota_S32x128_d0_w32) v157 v159) (k0_pay17 v119 v124 (iota .tc S32x128 32 [0] iota_S32x128_d0_w32) v157 v159) (ix2 s j)
     = acc (ix2 s j) + ahd w j s 2 + ahd w j s 3 + ahd w j s 4 := by
  unfold k0_pay16 k0_pay17 k0_pay15
  rw [h]
  pointwise [k0_pay18]
  rfl

theorem q22 : k0_pay22 (iota .tc S32x128 32 [0] iota_S32x128_d0_w32) w acc  (k0_pay20 w) (k0_pay21 (iota .tc S32x128 32 [0] iota_S32x128_d0_w32) w) (Scalar.ofBits .f32 0x3F800000#32) (ix2 s j)
    = acc (ix2 s j) + ahd w j s 5 + ahd w j s 6 + ahd w j s 7 + ahd w j s 8 := by
  pointwise [k0_pay22, k0_pay19, k0_pay20, k0_pay21]
  rfl

theorem q25 : k0_pay25 (iota .tc S32x128 32 [0] iota_S32x128_d0_w32) w acc (k0_pay23 w) (k0_pay24 w) (ix2 s j)
    = acc (ix2 s j) + ahd w j s 9 + ahd w j s 10 + ahd w j s 11 := by
  pointwise [k0_pay25, k0_pay23, k0_pay24]
  rfl

theorem q29 : k0_pay29 (iota .tc S32x128 32 [0] iota_S32x128_d0_w32) w acc (k0_pay27 w) (k0_pay28 (iota .tc S32x128 32 [0] iota_S32x128_d0_w32) w) (ix2 s j)
    = acc (ix2 s j) + ahd w j s 12 + ahd w j s 13 + ahd w j s 14 := by
  pointwise [k0_pay29, k0_pay26, k0_pay27, k0_pay28]
  rfl

theorem q33 : k0_pay33 (iota .tc S32x128 32 [0] iota_S32x128_d0_w32) w acc (k0_pay31 w) (k0_pay32 (iota .tc S32x128 32 [0] iota_S32x128_d0_w32) w) (Scalar.ofBits .f32 0x3F800000#32) (ix2 s j)
    = acc (ix2 s j) + ahd w j s 15 + ahd w j s 16 + ahd w j s 17 + ahd w j s 18 := by
  pointwise [k0_pay33, k0_pay30, k0_pay31, k0_pay32]
  rfl

theorem q36 : k0_pay36 (iota .tc S32x128 32 [0] iota_S32x128_d0_w32) w acc (k0_pay34 w) (k0_pay35 w) (ix2 s j)
    = acc (ix2 s j) + ahd w j s 19 + ahd w j s 20 + ahd w j s 21 := by
  pointwise [k0_pay36, k0_pay34, k0_pay35]
  rfl

theorem q40 : k0_pay40 (iota .tc S32x128 32 [0] iota_S32x128_d0_w32) w acc (k0_pay38 w) (k0_pay39 (iota .tc S32x128 32 [0] iota_S32x128_d0_w32) w) (ix2 s j)
    = acc (ix2 s j) + ahd w j s 22 + ahd w j s 23 + ahd w j s 24 := by
  pointwise [k0_pay40, k0_pay37, k0_pay38, k0_pay39]
  rfl

theorem q44 : k0_pay44 (iota .tc S32x128 32 [0] iota_S32x128_d0_w32) w acc (k0_pay42 w) (k0_pay43 (iota .tc S32x128 32 [0] iota_S32x128_d0_w32) w) (Scalar.ofBits .f32 0x3F800000#32) (ix2 s j)
    = acc (ix2 s j) + ahd w j s 25 + ahd w j s 26 + ahd w j s 27 + ahd w j s 28 := by
  pointwise [k0_pay44, k0_pay41, k0_pay42, k0_pay43]
  rfl

theorem q47 : k0_pay47 (iota .tc S32x128 32 [0] iota_S32x128_d0_w32) w acc (k0_pay45 w) (k0_pay46 w) (ix2 s j)
    = IntOp.andi (BitVec.ofBool (decide (acc (ix2 s j) + ahd w j s 29 + ahd w j s 30 + ahd w j s 31 < Ideal.ofBits .f32 0x41800000#32))) (IntOp.cmpi .slt (BitVec.ofNat 32 s.val) 32#32) := by
  pointwise [k0_pay47, k0_pay45, k0_pay46]
  rfl
end

theorem sum32 (F : Fin 32 → EReal) : 0 + F 0 + F 1 + F 2 + F 3 + F 4 + F 5 + F 6 + F 7 + F 8 + F 9 + F 10 + F 11 + F 12 + F 13 + F 14 + F 15
    + F 16 + F 17 + F 18 + F 19 + F 20 + F 21 + F 22 + F 23 + F 24 + F 25 + F 26 + F 27 + F 28 + F 29 + F 30 + F 31 = ∑ p, F p := by
  simp only [Fin.sum_univ_castSucc, Fin.sum_univ_zero]
  rfl

theorem sixteen : (Ideal.ofBits FTy.f32 0x41800000#32 : EReal) = ((16 : ℕ) : EReal) := by
  simp [Ideal.ofBits, Ideal.ieee]
  rw [← EReal.coe_mul, show (8388608 : ℝ) * (2 ^ 19)⁻¹ = 16 by norm_num]
  rfl

/-- The kernel's count of the blocks that go before one is its rank. -/
theorem ahd_sum (w : FVec Ideal S32x128 .f32) (j : Fin 128) (s : Fin 32) :
    ∑ p, ahd w j s p = ((rank (fun p => w (ix2 p j)) s : ℕ) : EReal) := by
  classical
  have e : ∀ p, ahd w j s p = if Ahead (fun p => w (ix2 p j)) p s then 1 else 0 := by
    intro p
    unfold ahd Ahead
    by_cases h : w (ix2 s j) < w (ix2 p j)
    · simp [h]
    · rw [WordCmp.cmpi_sgt_ofNat (by omega) (by omega), WordCmp.andi_ofBool]
      by_cases h1 : w (ix2 p j) = w (ix2 s j) <;> by_cases h2 : p < s <;> simp [h, h1, h2, Scalar.select, Fin.lt_def.symm]
  simp only [e]
  rw [Finset.sum_boole]
  unfold rank
  congr

theorem kpick (v119 : FVec Ideal S32x128 .f32) (v124 : IVec S32x128 32) (v157 : IVec S32x128 1) (v159 : IVec S32x128 32)
  (w : FVec Ideal S32x128 .f32) (s : Fin 32) (j : Fin 128) (h : k0_pay13 v119 v124 (iota .tc S32x128 32 [0] iota_S32x128_d0_w32) v157 v159 = w) :
  k0_pay1 (F := Ideal) (k0_pay47 (iota .tc S32x128 32 [0] iota_S32x128_d0_w32) w (k0_pay44 (iota .tc S32x128 32 [0] iota_S32x128_d0_w32) w (k0_pay40 (iota .tc S32x128 32 [0] iota_S32x128_d0_w32) w (k0_pay36 (iota .tc S32x128 32 [0] iota_S32x128_d0_w32) w (k0_pay33 (iota .tc S32x128 32 [0] iota_S32x128_d0_w32) w (k0_pay29 (iota .tc S32x128 32 [0] iota_S32x128_d0_w32) w (k0_pay25 (iota .tc S32x128 32 [0] iota_S32x128_d0_w32) w (k0_pay22 (iota .tc S32x128 32 [0] iota_S32x128_d0_w32) w (k0_pay18 (iota .tc S32x128 32 [0] iota_S32x128_d0_w32) w (k0_pay14 v119 v124 (iota .tc S32x128 32 [0] iota_S32x128_d0_w32) v157 v159) (k0_pay16 v119 v124 (iota .tc S32x128 32 [0] iota_S32x128_d0_w32) v157 v159) (k0_pay17 v119 v124 (iota .tc S32x128 32 [0] iota_S32x128_d0_w32) v157 v159)) (k0_pay20 w) (k0_pay21 (iota .tc S32x128 32 [0] iota_S32x128_d0_w32) w) (Scalar.ofBits .f32 0x3F800000#32)) (k0_pay23 w) (k0_pay24 w)) (k0_pay27 w) (k0_pay28 (iota .tc S32x128 32 [0] iota_S32x128_d0_w32) w)) (k0_pay31 w) (k0_pay32 (iota .tc S32x128 32 [0] iota_S32x128_d0_w32) w) (Scalar.ofBits .f32 0x3F800000#32)) (k0_pay34 w) (k0_pay35 w)) (k0_pay38 w) (k0_pay39 (iota .tc S32x128 32 [0] iota_S32x128_d0_w32) w)) (k0_pay42 w) (k0_pay43 (iota .tc S32x128 32 [0] iota_S32x128_d0_w32) w) (Scalar.ofBits .f32 0x3F800000#32)) (k0_pay45 w) (k0_pay46 w)) (Scalar.ofBits .f32 0x3F800000#32) (Scalar.ofBits .f32 0x00000000#32) (ix4 0 0 s j)
   = Scalar.select (BitVec.ofBool (decide (rank (fun p => w (ix2 p j)) s < 16))) (1 : EReal) 0 := by
  have e1 : ∀ b : IVec S32x128 1, k0_pay1 (F := Ideal) b (Scalar.ofBits .f32 0x3F800000#32) (Scalar.ofBits .f32 0x00000000#32) (ix4 0 0 s j) = Scalar.select (b (ix2 s j)) (1 : EReal) 0 := by
    intro b
    pointwise [k0_pay1]
  rw [e1, q47, q44, q40, q36, q33, q29, q25, q22, q18 v119 v124 v157 v159 w _ s j h, q14 v119 v124 v157 v159 w s j h, sum32 (ahd w j s), ahd_sum, sixteen,
    WordCmp.cmpi_slt_ofNat (by omega) (by omega), decide_eq_true s.isLt]
  simp only [Nat.cast_lt]
  generalize decide (rank (fun p => w (ix2 p j)) s < 16) = q
  cases q <;> rfl

end Cert.AttnCmp
-- ==== Proof.AttnCmp.lean ====
module

public import proofs.«01_k».proof.Defs
public import proofs.«01_k».proof.Proof.Gen.KernelIdeal.Value
public import proofs.«01_k».proof.Proof.Gen.ReferenceIdeal.Read
public import proofs.«01_k».proof.Proof.AttnKer
public import Idealize.ShloMosaic.Lib.Pipeline.ValueKit.Point
public import Idealize.ShloMosaic.Lib.Pipeline.ReadBack

@[expose] public section

noncomputable section

namespace Cert.AttnCmp

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ)

theorem e0 : ∀ t : Fin cfg0.N, win0_0.index t = ![t.val / 64 * 16 + t.val % 16, t.val / 16 % 4] :=
  (by decide +kernel : ∀ t : Fin grid0.N, win0_0.index t = ![t.val / 64 * 16 + t.val % 16, t.val / 16 % 4])
theorem e1 : ∀ t : Fin cfg0.N, win0_1.index t = ![0, t.val / 16 % 4, t.val / 64, 0, 0] :=
  (by decide +kernel : ∀ t : Fin grid0.N, win0_1.index t = ![0, t.val / 16 % 4, t.val / 64, 0, 0])
theorem e2 : ∀ t : Fin cfg0.N, win0_2.index t = ![1, t.val / 16 % 4, t.val / 64, 0, 0] :=
  (by decide +kernel : ∀ t : Fin grid0.N, win0_2.index t = ![1, t.val / 16 % 4, t.val / 64, 0, 0])
theorem e3 : ∀ t : Fin cfg0.N, win0_3.index t = ![t.val / 16 % 4, 0, t.val % 16, 0] :=
  (by decide +kernel : ∀ t : Fin grid0.N, win0_3.index t = ![t.val / 16 % 4, 0, t.val % 16, 0])
theorem e4 : ∀ t : Fin cfg0.N, win0_4.index t = ![0, t.val / 64, t.val / 16 % 4, t.val % 16, 0] :=
  (by decide +kernel : ∀ t : Fin grid0.N, win0_4.index t = ![0, t.val / 64, t.val / 16 % 4, t.val % 16, 0])
theorem e5 : ∀ t : Fin cfg0.N, win0_5.index t = ![t.val / 64 * 16 + t.val % 16, t.val / 16 % 4] :=
  (by decide +kernel : ∀ t : Fin grid0.N, win0_5.index t = ![t.val / 64 * 16 + t.val % 16, t.val / 16 % 4])
theorem e6 : ∀ t : Fin cfg0.N, win0_6.index t = ![t.val / 64, t.val / 16 % 4, 0, t.val % 16] :=
  (by decide +kernel : ∀ t : Fin grid0.N, win0_6.index t = ![t.val / 64, t.val / 16 % 4, 0, t.val % 16])
theorem ei : ∀ t : Fin cfg0.N, (grid0.coords t 2).val = t.val % 16 :=
  (by decide +kernel : ∀ t : Fin grid0.N, (grid0.coords t 2).val = t.val % 16)

/-- The argument arrays of the kernel, as functions of their indices. -/
abbrev X0 (c : Dev nD) : S8192x2048.Idx → EReal := m ((c : Thread nD τ).loc main_arg0)
abbrev X1 (c : Dev nD) : S2x4x4x128x128.Idx → EReal := m ((c : Thread nD τ).loc main_arg1)
abbrev X2 (c : Dev nD) : S4x4x2048x128.Idx → EReal := m ((c : Thread nD τ).loc main_arg2)
abbrev X3 (c : Dev nD) : S3x4x4x2048x4.Idx → EReal := m ((c : Thread nD τ).loc main_arg3)

theorem lt256 (t : Fin cfg0.N) : t.val < 256 := lt_of_lt_of_eq t.isLt N_0

/-- The batch entry, the head group and the query position of a row of a point's blocks. -/
def bOf (t : Fin cfg0.N) : Fin 4 := ⟨t.val / 64, by have := lt256 t; omega⟩
def hOf (t : Fin cfg0.N) : Fin 4 := ⟨t.val / 16 % 4, by omega⟩
def qOf (t : Fin cfg0.N) (r : Fin 128) : Fin 2048 := ⟨t.val % 16 * 128 + r.val, by omega⟩

theorem q_eq (c : Dev nD) (t : Fin cfg0.N) (r : Fin 128) (x : Fin 512) :
    iblk m c 0 t (ix2 r x) = X0 m c (ix2 ⟨(bOf t).val * 2048 + (qOf t r).val, by omega⟩ ⟨(hOf t).val * 512 + x.val, by omega⟩) := by
  unfold bOf hOf qOf
  have ht := lt256 t
  blk_ext! [iblk, V, V_main_arg0, e0 t]

theorem k_eq (c : Dev nD) (t : Fin cfg0.N) (z x : Fin 128) :
    iblk m c 1 t (ix5 0 0 0 z x) = X1 m c (ix5 0 (hOf t) (bOf t) z x) := by
  unfold bOf hOf
  have ht := lt256 t
  blk_ext! [iblk, V, V_main_arg1, e1 t]

theorem v_eq (c : Dev nD) (t : Fin cfg0.N) (z x : Fin 128) :
    iblk m c 2 t (ix5 0 0 0 z x) = X1 m c (ix5 1 (hOf t) (bOf t) z x) := by
  unfold bOf hOf
  have ht := lt256 t
  blk_ext! [iblk, V, V_main_arg1, e2 t]

theorem b_eq (c : Dev nD) (t : Fin cfg0.N) (g : Fin 4) (r z : Fin 128) :
    iblk m c 3 t (ix4 0 g r z) = X2 m c (ix4 (hOf t) g (qOf t r) z) := by
  unfold hOf qOf
  have ht := lt256 t
  blk_ext! [iblk, V, V_main_arg2, e3 t]

theorem g_eq (c : Dev nD) (t : Fin cfg0.N) (r : Fin 128) (g : Fin 4) :
    iblk m c 4 t (ix5 0 0 0 r g) = X3 m c (ix5 0 (bOf t) (hOf t) (qOf t r) g) := by
  unfold hOf qOf bOf
  have ht := lt256 t
  blk_ext! [iblk, V, V_main_arg3, e4 t]

/-- The row of the stacked heads that row `r` of head `g` is. -/
def rowOf (g : Fin 4) (r : Fin 128) : Fin 512 := ⟨g.val * 128 + r.val, by omega⟩

theorem row0 (r : Fin 128) : rowOf 0 r = ⟨r.val, by omega⟩ := Fin.ext (by show 0 * 128 + r.val = r.val; rw [Nat.zero_mul, Nat.zero_add])
theorem row1 (r : Fin 128) : rowOf 1 r = ⟨128 + r.val, by omega⟩ := Fin.ext (by show 1 * 128 + r.val = _; rfl)
theorem row2 (r : Fin 128) : rowOf 2 r = ⟨256 + r.val, by omega⟩ := Fin.ext (by show 2 * 128 + r.val = _; rfl)
theorem row3 (r : Fin 128) : rowOf 3 r = ⟨384 + r.val, by omega⟩ := Fin.ext (by show 3 * 128 + r.val = _; rfl)

/-- A point's input blocks, as functions of their indices. -/
abbrev B0 (c : Dev nD) (t : Fin cfg0.N) : S128x512.Idx → EReal := iblk m c 0 t
abbrev B1 (c : Dev nD) (t : Fin cfg0.N) : S1x1x1x128x128.Idx → EReal := iblk m c 1 t
abbrev B2 (c : Dev nD) (t : Fin cfg0.N) : S1x1x1x128x128.Idx → EReal := iblk m c 2 t
abbrev B3 (c : Dev nD) (t : Fin cfg0.N) : S1x4x128x128.Idx → EReal := iblk m c 3 t
abbrev B4 (c : Dev nD) (t : Fin cfg0.N) : S1x1x1x128x4.Idx → EReal := iblk m c 4 t

/-- The logits of a point at a row of a head and a column. -/
abbrev logits (c : Dev nD) (t : Fin cfg0.N) : FVec Ideal S512x128 .f32 :=
  k0_pay48 (grid0.coords t) (iblk m c 0 t) (iblk m c 1 t) (iblk m c 2 t) (iblk m c 3 t) (iblk m c 4 t)

theorem kl_core (c : Dev nD) (t : Fin cfg0.N) (g : Fin 4) (r z : Fin 128) :
    logits m c t (ix2 (rowOf g r) z) = ∑ x : Fin 128, B0 m c t (ix2 r ⟨g.val * 128 + x.val, by omega⟩) * B1 m c t (ix5 0 0 0 z x)
       + B3 m c t (ix4 0 g r z) := by
  have c0 : ∀ (q : Vec Ideal S128x512 .bf16) (r : Fin 128) (x : Fin 512), View.ld q r0_0 (ix2 r x) = q (ix2 r x) := by
    intro q r x; pointwise []
  have c1 : ∀ (q : Vec Ideal S1x1x1x128x128 .f32) (r x : Fin 128), View.ld q r0_1 (ix5 0 0 0 r x) = q (ix5 0 0 0 r x) := by
    intro q r x; pointwise []
  have d0 : ∀ (q : Vec Ideal S1x4x128x128 .f32) (r x : Fin 128), View.ld q r0_2 (ix4 0 0 r x) = q (ix4 0 0 r x) := by
    intro q r x; pointwise []
  have d1 : ∀ (q : Vec Ideal S1x4x128x128 .f32) (r x : Fin 128), View.ld q r0_3 (ix4 0 0 r x) = q (ix4 0 1 r x) := by
    intro q r x; pointwise []
  have d2 : ∀ (q : Vec Ideal S1x4x128x128 .f32) (r x : Fin 128), View.ld q r0_4 (ix4 0 0 r x) = q (ix4 0 2 r x) := by
    intro q r x; pointwise []
  have d3 : ∀ (q : Vec Ideal S1x4x128x128 .f32) (r x : Fin 128), View.ld q r0_5 (ix4 0 0 r x) = q (ix4 0 3 r x) := by
    intro q r x; pointwise []
  unfold logits k0_pay48
  match g with
  | 0 =>
    rw [row0, kp2_0, d0]
    refine congrArg (· + _) (Finset.sum_congr rfl fun x _ => ?_)
    rw [c0, c1]
    have e : (⟨(0 : Fin 4).val * 128 + x.val, by omega⟩ : Fin 512) = ⟨x.val, by omega⟩ := Fin.ext (by show 0 * 128 + x.val = x.val; omega)
    exact congrArg (fun i => B0 m c t (ix2 r i) * B1 m c t (ix5 0 0 0 z x)) e.symm
  | 1 =>
    rw [row1, kp2_1, d1]
    refine congrArg (· + _) (Finset.sum_congr rfl fun x _ => ?_)
    rw [c0, c1]
    rfl
  | 2 =>
    rw [row2, kp2_2, d2]
    refine congrArg (· + _) (Finset.sum_congr rfl fun x _ => ?_)
    rw [c0, c1]
    rfl
  | 3 =>
    rw [row3, kp2_3, d3]
    refine congrArg (· + _) (Finset.sum_congr rfl fun x _ => ?_)
    rw [c0, c1]
    rfl

theorem kl (c : Dev nD) (t : Fin cfg0.N) (g : Fin 4) (r : Fin 128) (z : Fin 127) :
    logits m c t (ix2 (rowOf g r) z.castSucc) = logit (X0 m c) (X1 m c) (X2 m c) (bOf t) (qOf t r) (hOf t) g z := by
  rw [kl_core]
  unfold logit
  refine congrArg₂ (· + ·) (Finset.sum_congr rfl fun x _ => ?_) (b_eq m c t g r z.castSucc)
  refine (congrArg₂ (fun a b : EReal => a * b) (q_eq m c t r _) (k_eq m c t z.castSucc x)).trans ?_
  refine (mul_comm _ _).trans ?_
  refine congrArg₂ (fun a b : EReal => a * b) rfl (congrArg (fun i => X0 m c (ix2 _ i)) (Fin.ext ?_))
  show (hOf t).val * 512 + (g.val * 128 + x.val) = (hOf t).val * 512 + g.val * 128 + x.val
  omega

/-- The probabilities of a point. -/
abbrev probs (c : Dev nD) (t : Fin cfg0.N) : FVec Ideal S512x128 .f32 :=
  k0_pay4 (logits m c t) (Scalar.addi 0#32 (Scalar.muli (BitVec.ofNat 32 (grid0.coords t 2).val) 128#32))
    (Scalar.select (Scalar.cmpi .eq 128#32 0#32) 1#32 128#32)
    (k0_pay49 (grid0.coords t) (iblk m c 0 t) (iblk m c 1 t) (iblk m c 2 t) (iblk m c 3 t) (iblk m c 4 t)) 0#32

theorem kmask_row (t : Fin cfg0.N) (g : Fin 4) (r z : Fin 128) : kmask (grid0.coords t 2).val (rowOf g r) z
    = BitVec.ofBool (decide (16 * z.val + 31 ≤ (qOf t r).val) && decide (z.val < 127)) := by
  rw [kmask_eq _ _ _ (by rw [ei]; omega) (rowOf g r).isLt z.isLt, ei]
  have e : (rowOf g r).val % 128 = r.val := by show (g.val * 128 + r.val) % 128 = _; omega
  rw [e]
  rfl

theorem kpr (c : Dev nD) (t : Fin cfg0.N) (g : Fin 4) (r : Fin 128) (z : Fin 127) :
    probs m c t (ix2 (rowOf g r) z.castSucc)
      = prob (logit (X0 m c) (X1 m c) (X2 m c) (bOf t) (qOf t r) (hOf t) g) (qOf t r).val z := by
  have h1 : ∀ z : Fin 127, kmask (grid0.coords t 2).val (rowOf g r) z.castSucc.val = BitVec.ofBool (decide (16 * z.val + 31 ≤ (qOf t r).val)) := by
    intro z
    rw [kmask_row t g r z.castSucc, show decide ((Fin.castSucc z).val < 127) = true from decide_eq_true z.isLt, Bool.and_true]
    rfl
  have h2 : kmask (grid0.coords t 2).val (rowOf g r) (Fin.last 127 : Fin 128).val = 0#1 := by
    rw [kmask_row t g r (Fin.last 127), show decide ((Fin.last 127).val < 127) = false from rfl, Bool.and_false]
    rfl
  refine (kp4 (logits m c t) (grid0.coords t 2).val (rowOf g r) z.castSucc).trans ?_
  refine (softmax_pad (fun x => logits m c t (ix2 (rowOf g r) x)) (fun x : Fin 128 => kmask (grid0.coords t 2).val (rowOf g r) x.val) _ h1 h2 z).trans ?_
  exact congrArg (fun l => prob l (qOf t r).val z) (funext fun x => kl m c t g r x)

theorem kpr_last (c : Dev nD) (t : Fin cfg0.N) (g : Fin 4) (r : Fin 128) :
    probs m c t (ix2 (rowOf g r) (Fin.last 127)) = 0 := by
  have h2 : kmask (grid0.coords t 2).val (rowOf g r) (Fin.last 127 : Fin 128).val = 0#1 := by
    rw [kmask_row t g r (Fin.last 127), show decide ((Fin.last 127).val < 127) = false from rfl, Bool.and_false]
    rfl
  refine (kp4 (logits m c t) (grid0.coords t 2).val (rowOf g r) (Fin.last 127)).trans ?_
  rw [h2]
  exact mul_zero _

/-- The attention's result of a point, before its gate. -/
theorem kpv (c : Dev nD) (t : Fin cfg0.N) (g : Fin 4) (r d : Fin 128) :
    k0_pay5 (logits m c t) (Scalar.addi 0#32 (Scalar.muli (BitVec.ofNat 32 (grid0.coords t 2).val) 128#32))
      (Scalar.select (Scalar.cmpi .eq 128#32 0#32) 1#32 128#32)
      (k0_pay49 (grid0.coords t) (iblk m c 0 t) (iblk m c 1 t) (iblk m c 2 t) (iblk m c 3 t) (iblk m c 4 t)) 0#32
      (B2 m c t) (ix2 (rowOf g r) d)
    = ∑ x : Fin 127, X1 m c (ix5 1 (hOf t) (bOf t) ⟨x.val, by omega⟩ d)
       * prob (logit (X0 m c) (X1 m c) (X2 m c) (bOf t) (qOf t r) (hOf t) g) (qOf t r).val x := by
  rw [kp5]
  refine (sum_pad (fun x => probs m c t (ix2 (rowOf g r) x)) _ (kpr_last m c t g r)).trans ?_
  refine Finset.sum_congr rfl fun x _ => ?_
  refine (congrArg₂ (fun a b : EReal => a * b) (kpr m c t g r x) (v_eq m c t x.castSucc d)).trans ?_
  exact mul_comm _ _

/-- What a point stores in its block of the attention's result. -/
theorem out5 (c : Dev nD) (t : Fin cfg0.N) (g : Fin 4) (r d : Fin 128) :
    (out0_5 (grid0.coords t) (iblk m c 0 t) (iblk m c 1 t) (iblk m c 2 t) (iblk m c 3 t) (iblk m c 4 t) : Vec Ideal S128x512 .f32) (ix2 r ⟨g.val * 128 + d.val, by omega⟩)
    = (∑ x : Fin 127, X1 m c (ix5 1 (hOf t) (bOf t) ⟨x.val, by omega⟩ d)
       * prob (logit (X0 m c) (X1 m c) (X2 m c) (bOf t) (qOf t r) (hOf t) g) (qOf t r).val x)
      * X3 m c (ix5 0 (bOf t) (hOf t) (qOf t r) g) := by
  refine Eq.trans ?_ (congrArg₂ (· * ·) (kpv m c t g r d) (g_eq m c t r g))
  unfold out0_5
  frame_out
  match g with
  | 0 =>
    rw [row0]
    refine (congrArg (fun i => k0_pay6 _ _ (ix2 r i)) (Fin.ext ?_)).trans (kp6_0 _ _ r d)
    show 0 * 128 + d.val = d.val
    omega
  | 1 => exact kp6_1 _ _ r d
  | 2 => exact kp6_2 _ _ r d
  | 3 => exact kp6_3 _ _ r d

/-- What a point stores in its block of the selection. -/
theorem out6 (c : Dev nD) (t : Fin cfg0.N) (s : Fin 32) (r : Fin 128) :
    (out0_6 (grid0.coords t) (iblk m c 0 t) (iblk m c 1 t) (iblk m c 2 t) (iblk m c 3 t) (iblk m c 4 t) : Vec Ideal S1x1x32x128 .f32) (ix4 0 0 s r)
    = Scalar.select (BitVec.ofBool (decide (rank (score (importance (X0 m c) (X1 m c) (X2 m c) (bOf t) (qOf t r) (hOf t)) (qOf t r).val) s < 16))) (1 : EReal) 0 := by
  unfold out0_6
  frame_out
  refine (kpick _ _ _ _ _ s r rfl).trans ?_
  have key : (fun p : Fin 32 => (k0_pay55 (F := Ideal) (grid0.coords t) (B0 m c t) (B1 m c t) (B2 m c t) (B3 m c t) (B4 m c t) (ix2 p r) : EReal))
      = score (importance (X0 m c) (X1 m c) (X2 m c) (bOf t) (qOf t r) (hOf t)) (qOf t r).val := by
    funext p
    refine (kp13 _ ⟨(grid0.coords t 2).val, by rw [ei]; omega⟩ p r).trans ?_
    have e : ∀ s, k0_pay51 (F := Ideal) (grid0.coords t) (B0 m c t) (B1 m c t) (B2 m c t) (B3 m c t) (B4 m c t) (ix2 s r)
        = importance (X0 m c) (X1 m c) (X2 m c) (bOf t) (qOf t r) (hOf t) s := by
      intro s
      refine (kp9 (k0_pay7 (probs m c t)) s r).trans ?_
      unfold importance
      refine Finset.sum_congr rfl fun x _ => congrArg (· * _) ?_
      refine (kp7 (probs m c t) r x.castSucc).trans ?_
      rw [Fin.sum_univ_four, ← row0, ← row1, ← row2, ← row3, kpr, kpr, kpr, kpr]
    refine congrArg₂ (fun f n => score f n p) (funext e) ?_
    show (grid0.coords t 2).val * 128 + r.val = _
    rw [ei]
    rfl
  exact congrArg (fun f => Scalar.select (BitVec.ofBool (decide (rank f s < 16))) (1 : EReal) 0) key

/-- The attention's result as a function of batch entry, query, head group, head and column. -/
def attn (a0 : S8192x2048.Idx → EReal) (a1 : S2x4x4x128x128.Idx → EReal) (a2 : S4x4x2048x128.Idx → EReal)
    (a3 : S3x4x4x2048x4.Idx → EReal) (b : Fin 4) (q : Fin 2048) (h g : Fin 4) (d : Fin 128) : EReal :=
  (∑ x : Fin 127, a1 (ix5 1 h b ⟨x.val, by omega⟩ d) * prob (logit a0 a1 a2 b q h g) q.val x) * a3 (ix5 0 b h q g)

theorem attn_congr (a0 : S8192x2048.Idx → EReal) (a1 : S2x4x4x128x128.Idx → EReal) (a2 : S4x4x2048x128.Idx → EReal)
    (a3 : S3x4x4x2048x4.Idx → EReal) {b b' : Fin 4} {q q' : Fin 2048} {h h' g g' : Fin 4} {d d' : Fin 128}
    (hb : b = b') (hq : q = q') (hh : h = h') (hg : g = g') (hd : d = d') :
    attn a0 a1 a2 a3 b q h g d = attn a0 a1 a2 a3 b' q' h' g' d' := by
  rw [hb, hq, hh, hg, hd]

theorem r54' (a0 : S8192x2048.Idx → EReal) (a1 : S2x4x4x128x128.Idx → EReal) (a2 : S4x4x2048x128.Idx → EReal)
    (a3 : S3x4x4x2048x4.Idx → EReal) (b : Fin 4) (q : Fin 2048) (h g : Fin 4) (d : Fin 128) (i : S8192x2048.Idx)
    (h0 : (i 0).val = b.val * 2048 + q.val) (h1 : (i 1).val = h.val * 512 + g.val * 128 + d.val) :
    val_main_v54 (F := Ideal) a0 a1 a2 a3 i = attn a0 a1 a2 a3 b q h g d := by
  have ei : i = ix2 (n0 := 8192) (n1 := 2048) ⟨b.val * 2048 + q.val, by omega⟩ ⟨h.val * 512 + g.val * 128 + d.val, by omega⟩ := by
    funext a
    match a with
    | ⟨0, _⟩ => exact Fin.ext h0
    | ⟨1, _⟩ => exact Fin.ext h1
  rw [ei, r54]
  refine attn_congr a0 a1 a2 a3 (Fin.ext ?_) (Fin.ext ?_) (Fin.ext ?_) (Fin.ext ?_) (Fin.ext ?_) <;> dsimp only <;> omega

theorem final5 (c : Dev nD) : (dats m 0 c).arrAt 5 cfg0.N
    = val_main_v54 (F := Ideal) (X0 m c) (X1 m c) (X2 m c) (X3 m c) := by
  refine (dats m 0 c).arrAt_eq_of_covers 5 _ (by decide +kernel) fun t hf y => ?_
  have ht := lt256 t
  blk_simp
  rw [after0_5]
  have hy : (y 1).val < 512 := (y 1).isLt
  have hy0 : (y 0).val < 128 := (y 0).isLt
  refine Eq.trans ?_ ((out5 m c t ⟨(y 1).val / 128, by omega⟩ ⟨(y 0).val, hy0⟩ ⟨(y 1).val % 128, by omega⟩).trans
    (r54' (X0 m c) (X1 m c) (X2 m c) (X3 m c) (bOf t) (qOf t ⟨(y 0).val, hy0⟩) (hOf t) ⟨(y 1).val / 128, by omega⟩ ⟨(y 1).val % 128, by omega⟩
      ((win0_5.blk t).view.emb y) ?_ ?_).symm)
  · refine congrArg _ ?_
    funext a
    match a with
    | ⟨0, _⟩ => rfl
    | ⟨1, _⟩ => exact Fin.ext (by show (y 1).val = (y 1).val / 128 * 128 + (y 1).val % 128; omega)
  · show _ = t.val / 64 * 2048 + (t.val % 16 * 128 + (y 0).val)
    blk_simp [e5 t]
    omega
  · show _ = t.val / 16 % 4 * 512 + (y 1).val / 128 * 128 + (y 1).val % 128
    blk_simp [e5 t]
    omega

theorem final6 (c : Dev nD) : (dats m 0 c).arrAt 6 cfg0.N
    = val_main_v111 (F := Ideal) (X0 m c) (X1 m c) (X2 m c) := by
  refine (dats m 0 c).arrAt_eq_of_covers 6 _ (by decide +kernel) fun t hf y => ?_
  have ht := lt256 t
  blk_simp
  rw [after0_6]
  have hy0 : (y 0).val < 1 := (y 0).isLt
  have hy1 : (y 1).val < 1 := (y 1).isLt
  have hy2 : (y 2).val < 32 := (y 2).isLt
  have hy3 : (y 3).val < 128 := (y 3).isLt
  refine Eq.trans ?_ ((out6 m c t ⟨(y 2).val, hy2⟩ ⟨(y 3).val, hy3⟩).trans
    ((r111 (X0 m c) (X1 m c) (X2 m c) (bOf t) (qOf t ⟨(y 3).val, hy3⟩) (hOf t) ⟨(y 2).val, hy2⟩).symm.trans (congrArg _ ?_)))
  · refine congrArg _ ?_
    funext a
    match a with
    | ⟨0, _⟩ => exact Fin.ext (by show (y 0).val = 0; omega)
    | ⟨1, _⟩ => exact Fin.ext (by show (y 1).val = 0; omega)
    | ⟨2, _⟩ => rfl
    | ⟨3, _⟩ => rfl
  · symm
    funext a
    match a with
    | 0 =>
      refine Fin.ext ?_
      show _ = t.val / 64
      blk_simp [e6 t]
    | 1 =>
      refine Fin.ext ?_
      show _ = t.val / 16 % 4
      blk_simp [e6 t]
    | 2 =>
      refine Fin.ext ?_
      show _ = (y 2).val
      blk_simp [e6 t]
    | 3 =>
      refine Fin.ext ?_
      show _ = t.val % 16 * 128 + (y 3).val
      blk_simp [e6 t]

/-- The kernel's run and the reference's, from equal arguments, end with equal results. -/
theorem alg : Cert.algebraic_KernelIdeal_ReferenceIdeal := by
  intro m g m' g' _ hm
  refine ⟨fun c => (dats m 0 c).arrAt 5 cfg0.N, fun c => (dats m 0 c).arrAt 6 cfg0.N, Cert.KernelIdeal.Value.run_blocks m g, ?_⟩
  refine (θ_run _ _ _).mono (fun r h c => ⟨?_, ?_, (h c).2.2⟩) (Cert.ReferenceIdeal.Value.run m' g')
  · obtain ⟨h0, h1, h2, h3⟩ := hm c
    beta_reduce
    rw [final5 m c, X0, X1, X2, X3, ← h0, ← h1, ← h2, ← h3]
    exact (h c).1.trans (val_main_v54_eq _ _)
  · obtain ⟨h0, h1, h2, h3⟩ := hm c
    beta_reduce
    rw [final6 m c, X0, X1, X2, ← h0, ← h1, ← h2]
    exact (h c).2.1.trans (val_main_v111_eq _ _)

end Cert.AttnCmp
-- ==== Proof.Mlp.lean ====
module

public import proofs.«01_k».proof.Defs
public import proofs.«01_k».proof.Proof.Gen.Kernel2Ideal.Value
public import proofs.«01_k».proof.Proof.Gen.Reference2Ideal.Read
public import Idealize.ShloMosaic.Lib.Pipeline.ValueKit.Point
public import Idealize.ShloMosaic.Lib.Pipeline.ReadBack

@[expose] public section

noncomputable section

namespace Cert.Mlp

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

theorem e0 : ∀ t : Fin cfg0.N, win0_0.index t = ![t.val / 8, 0] :=
  (by decide +kernel : ∀ t : Fin grid0.N, win0_0.index t = ![t.val / 8, 0])
theorem e1 : ∀ t : Fin cfg0.N, win0_1.index t = ![0, 0] :=
  (by decide +kernel : ∀ t : Fin grid0.N, win0_1.index t = ![0, 0])
theorem e2 : ∀ t : Fin cfg0.N, win0_2.index t = ![3, 0, t.val % 8] :=
  (by decide +kernel : ∀ t : Fin grid0.N, win0_2.index t = ![3, 0, t.val % 8])
theorem e3 : ∀ t : Fin cfg0.N, win0_3.index t = ![3, t.val % 8, 0] :=
  (by decide +kernel : ∀ t : Fin grid0.N, win0_3.index t = ![3, t.val % 8, 0])
theorem e4 : ∀ t : Fin cfg0.N, win0_4.index t = ![t.val / 8, 0] :=
  (by decide +kernel : ∀ t : Fin grid0.N, win0_4.index t = ![t.val / 8, 0])

/-- The normalised input of the reference at a row and a column. -/
def hn (a0 : S8192x2048.Idx → EReal) (a1 : S2048.Idx → EReal) (r : Fin 8192) (k : Fin 2048) : EReal :=
  val_main_v12 (F := Ideal) a0 a1 (ix2 r k)

/-- One hidden unit's contribution to the result at a row and a column. -/
def unit (a0 : S8192x2048.Idx → EReal) (a1 : S2048.Idx → EReal) (a2 : S4x2048x8192.Idx → EReal) (a3 : S4x8192x2048.Idx → EReal)
    (r : Fin 8192) (f : Fin 8192) (l : Fin 2048) : EReal :=
  (max (∑ k : Fin 2048, hn a0 a1 r k * a2 (ix3 3 k f)) 0) * (max (∑ k : Fin 2048, hn a0 a1 r k * a2 (ix3 3 k f)) 0) * a3 (ix3 3 f l)

theorem unit_congr (a0 : S8192x2048.Idx → EReal) (a1 : S2048.Idx → EReal) (a2 : S4x2048x8192.Idx → EReal) (a3 : S4x8192x2048.Idx → EReal)
    {r r' : Fin 8192} {f f' : Fin 8192} {l l' : Fin 2048} (hr : r = r') (hf : f = f') (hl : l = l') :
    unit a0 a1 a2 a3 r f l = unit a0 a1 a2 a3 r' f' l' := by
  rw [hr, hf, hl]

/-- The reference's result at an index. -/
theorem ref_apply (a0 : S8192x2048.Idx → EReal) (a1 : S2048.Idx → EReal) (a2 : S4x2048x8192.Idx → EReal) (a3 : S4x8192x2048.Idx → EReal) (i : S8192x2048.Idx) :
    val_main_v21 (F := Ideal) a0 a1 a2 a3 i = a0 i + ∑ f : Fin 8192, unit a0 a1 a2 a3 (i 0) f (i 1) := by
  unfold unit hn
  pointwise [val_main_v21, val_main_v20, val_main_v19, val_main_v18, val_main_v17, val_main_v16, val_main_call0_v0, val_main_call0_cst, val_main_v15, val_main_v14, val_main_v13]

theorem pay2_apply (x : S512x2048.Idx → EReal) (j) : k0_pay2 (F := Ideal) x j = x j := by
  pointwise [k0_pay2]

theorem pay3_apply (h : S512x2048.Idx → EReal) (w1 : S1x2048x1024.Idx → EReal) (acc : S512x2048.Idx → EReal) (w2 : S1x1024x2048.Idx → EReal) (j) :
    k0_pay3 (F := Ideal) h w1 acc w2 j
      = acc j + ∑ f : Fin 1024, max (∑ k : Fin 2048, h (ix2 (j 0) k) * w1 (ix3 0 k f)) 0 * max (∑ k : Fin 2048, h (ix2 (j 0) k) * w1 (ix3 0 k f)) 0
          * w2 (ix3 0 f (j 1)) := by
  pointwise [k0_pay3]

theorem state_A (c : Dev nD) (t : Fin cfg0.N) (h0 : t.val % 8 = 0) :
    (outsAt0 m c t.val t.isLt).2.1 = k0_pay1 (iblk m c 0 t) (iblk m c 1 t)
    ∧ (outsAt0 m c t.val t.isLt).2.2 = k0_pay3 (k0_pay1 (iblk m c 0 t) (iblk m c 1 t)) (iblk m c 2 t) (k0_pay2 (iblk m c 0 t)) (iblk m c 3 t) := by
  rw [outsAt0_A m c t h0 (by omega)]
  constructor
  · frame_out
  · frame_out

theorem state_BC (c : Dev nD) (t : Fin cfg0.N) (h0 : ¬ t.val % 8 = 0) :
    (outsAt0 m c t.val t.isLt).2.1 = (outsAt0 m c (t.val - 1) (Nat.lt_of_le_of_lt (Nat.sub_le _ _) t.isLt)).2.1
    ∧ (outsAt0 m c t.val t.isLt).2.2 = k0_pay3 (outsAt0 m c (t.val - 1) (Nat.lt_of_le_of_lt (Nat.sub_le _ _) t.isLt)).2.1 (iblk m c 2 t) (outsAt0 m c (t.val - 1) (Nat.lt_of_le_of_lt (Nat.sub_le _ _) t.isLt)).2.2 (iblk m c 3 t) := by
  by_cases h1 : t.val % 8 = 7
  · rw [outsAt0_C m c t h0 h1]
    constructor
    · rfl
    · frame_out
      rw [read_unread_whole, read_unread_whole]
  · rw [outsAt0_B m c t h0 h1]
    constructor
    · rfl
    · frame_out
      rw [read_unread_whole, read_unread_whole]

theorem out_C (c : Dev nD) (t : Fin cfg0.N) (h1 : t.val % 8 = 7) :
    (outsAt0 m c t.val t.isLt).1 = (outsAt0 m c t.val t.isLt).2.2 := by
  rw [outsAt0_C m c t (by omega) h1]
  frame_out

/-- The argument arrays of the kernel, as functions of their indices. -/
abbrev X0 (c : Dev nD) : S8192x2048.Idx → EReal := m ((c : Thread nD τ).loc main_arg0)
abbrev X1 (c : Dev nD) : S2048.Idx → EReal := m ((c : Thread nD τ).loc main_arg1)
abbrev X2 (c : Dev nD) : S4x2048x8192.Idx → EReal := m ((c : Thread nD τ).loc main_arg2)
abbrev X3 (c : Dev nD) : S4x8192x2048.Idx → EReal := m ((c : Thread nD τ).loc main_arg3)

/-- The row of the arrays that the row of `j` is in point `n`'s blocks. -/
def row (n : ℕ) (j : S512x2048.Idx) : Fin 8192 := ⟨(512 * (n / 8) + (j 0).val) % 8192, Nat.mod_lt _ (by decide)⟩
/-- The hidden unit that unit `f` of the `s`-th block of a run is. -/
def hid (s : ℕ) (f : Fin 1024) : Fin 8192 := ⟨(s * 1024 + f.val) % 8192, Nat.mod_lt _ (by decide)⟩

/-- What a point of run place 0 stores as the normalised rows. -/
theorem nrm_eq (c : Dev nD) (t : Fin cfg0.N) (j : S512x2048.Idx) :
    k0_pay1 (F := Ideal) (iblk m c 0 t) (iblk m c 1 t) j
      = hn (X0 m c) (X1 m c) (row t.val j) (j 1) := by
  have hN : cfg0.N = 128 := N_0
  have ht := t.isLt
  unfold hn row
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

/-- The block's residual rows are the array's. -/
theorem x_eq (c : Dev nD) (t : Fin cfg0.N) (j : S512x2048.Idx) :
    iblk m c 0 t j = X0 m c (ix2 (row t.val j) (j 1)) := by
  have hN : cfg0.N = 128 := N_0
  have ht := t.isLt
  unfold row
  blk_ext! [iblk, V, V_main_arg0, e0 t]

theorem w1_eq (c : Dev nD) (t : Fin cfg0.N) (k : Fin 2048) (f : Fin 1024) :
    iblk m c 2 t (ix3 0 k f) = X2 m c (ix3 3 k (hid (t.val % 8) f)) := by
  unfold hid
  blk_ext! [iblk, V, e2 t]

theorem w2_eq (c : Dev nD) (t : Fin cfg0.N) (f : Fin 1024) (l : Fin 2048) :
    iblk m c 3 t (ix3 0 f l) = X3 m c (ix3 3 (hid (t.val % 8) f) l) := by
  unfold hid
  blk_ext! [iblk, V, e3 t]

/-- One point's second payload over rows that hold the normalised input: the accumulator plus one hidden block. -/
theorem step (c : Dev nD) (t : Fin cfg0.N) (h : S512x2048.Idx → EReal) (acc : S512x2048.Idx → EReal)
    (hh : ∀ j : S512x2048.Idx, h j = hn (X0 m c) (X1 m c) (row t.val j) (j 1)) (j : S512x2048.Idx) :
    k0_pay3 (F := Ideal) h (iblk m c 2 t) acc (iblk m c 3 t) j
      = acc j + ∑ f : Fin 1024, unit (X0 m c) (X1 m c) (X2 m c) (X3 m c) (row t.val j) (hid (t.val % 8) f) (j 1) := by
  rw [pay3_apply]
  congr 1
  refine Finset.sum_congr rfl fun f _ => ?_
  have e : ∑ k : Fin 2048, h (ix2 (j 0) k) * iblk m c 2 t (ix3 0 k f)
      = ∑ k : Fin 2048, hn (X0 m c) (X1 m c) (row t.val j) k * X2 m c (ix3 3 k (hid (t.val % 8) f)) :=
    Finset.sum_congr rfl fun k _ => by rw [hh, w1_eq]; rfl
  unfold unit
  rw [e]
  congr 1
  exact w2_eq m c t f (j 1)

/-- What the two carried scratches hold after each point: the normalised rows, and the residual plus the hidden blocks so far. -/
theorem state (c : Dev nD) : ∀ (n : ℕ) (hlt : n < cfg0.N),
    (∀ j : S512x2048.Idx, (outsAt0 m c n hlt).2.1 j
      = hn (X0 m c) (X1 m c) (row n j) (j 1))
    ∧ ∀ j : S512x2048.Idx, (outsAt0 m c n hlt).2.2 j
      = X0 m c (ix2 (row n j) (j 1))
        + ∑ s ∈ Finset.range (n % 8 + 1), ∑ f : Fin 1024, unit (X0 m c) (X1 m c)
            (X2 m c) (X3 m c) (row n j) (hid s f) (j 1) := by
  intro n
  induction n with
  | zero =>
    intro hlt
    obtain ⟨h1, h2⟩ := state_A m c ⟨0, hlt⟩ (by rfl)
    dsimp only at h1 h2
    have key : ∀ j : S512x2048.Idx, (outsAt0 m c 0 hlt).2.1 j
      = hn (X0 m c) (X1 m c) (row 0 j) (j 1) := by
      intro j; rw [h1, nrm_eq]
    refine ⟨key, fun j => ?_⟩
    rw [h2, step m c ⟨0, hlt⟩ _ _ (fun j => by rw [← h1]; exact key j), pay2_apply, x_eq]
    simp only [Nat.zero_mod, zero_add, Finset.sum_range_one]
  | succ n ih =>
    intro hlt
    by_cases h0 : (n + 1) % 8 = 0
    · obtain ⟨h1, h2⟩ := state_A m c ⟨n + 1, hlt⟩ h0
      dsimp only at h1 h2
      have key : ∀ j : S512x2048.Idx, (outsAt0 m c (n + 1) hlt).2.1 j
        = hn (X0 m c) (X1 m c) (row (n + 1) j) (j 1) := by
        intro j; rw [h1, nrm_eq]
      refine ⟨key, fun j => ?_⟩
      rw [h2, step m c ⟨n + 1, hlt⟩ _ _ (fun j => by rw [← h1]; exact key j), pay2_apply, x_eq]
      simp only [h0, zero_add, Finset.sum_range_one]
    · obtain ⟨h1, h2⟩ := state_BC m c ⟨n + 1, hlt⟩ h0
      obtain ⟨i1, i2⟩ := ih (Nat.lt_of_succ_lt hlt)
      simp only [Nat.add_sub_cancel] at h1 h2
      have hd : (n + 1) / 8 = n / 8 := by omega
      have hm : (n + 1) % 8 = n % 8 + 1 := by omega
      have hr : ∀ j, row (n + 1) j = row n j := fun j => by unfold row; simp only [hd]
      refine ⟨fun j => ?_, fun j => ?_⟩
      · rw [h1, i1, hr]
      · rw [h2, step m c ⟨n + 1, hlt⟩ _ _ (fun j => by rw [i1]; simp only [hr]), i2, hr, hm, Finset.sum_range_succ _ (n % 8 + 1), ← add_assoc]

theorem final (c : Dev nD) : (dats m 0 c).arrAt 4 cfg0.N
    = val_main_v21 (F := Ideal) (X0 m c) (X1 m c)
        (X2 m c) (X3 m c) := by
  refine (dats m 0 c).arrAt_eq_of_covers 4 _ (by decide +kernel) fun t hf y => ?_
  have h7 := (flush0_4 t).mp hf
  have hN : cfg0.N = 128 := N_0
  have ht := t.isLt
  blk_simp
  rw [after0_4, out_C m c t h7]
  refine ((state m c t.val t.isLt).2 y).trans ?_
  rw [ref_apply, h7, ← Fin.sum_mul_add_fin 8 1024]
  have hr : row t.val y = ((win0_4.blk t).view.emb y 0) := by
    refine Fin.ext ?_
    show (512 * (t.val / 8) + (y 0).val) % 8192 = _
    have hy : (y 0).val < 512 := (y 0).isLt
    blk_simp [e4 t]
    omega
  have hl : y 1 = ((win0_4.blk t).view.emb y 1) := by
    refine Fin.ext ?_
    blk_simp [e4 t]
  have hi : ix2 (n0 := 8192) (n1 := 2048) (row t.val y) (y 1) = (win0_4.blk t).view.emb y := by
    refine (congrArg₂ ix2 hr hl).trans ?_
    exact (ValueIdx.eq_ix2 _).symm
  refine congrArg₂ (· + ·) (congrArg (X0 m c) hi) ((Finset.sum_range _).trans ?_)
  refine Finset.sum_congr rfl fun s _ => Finset.sum_congr rfl fun f _ => unit_congr _ _ _ _ hr ?_ hl
  exact Fin.ext (Nat.mod_eq_of_lt (by omega))

/-- The kernel's run and the reference's, from equal arguments, end with equal results. -/
theorem alg : Cert.algebraic_Kernel2Ideal_Reference2Ideal := by
  intro m g m' g' _ hm
  refine ⟨fun c => (dats m 0 c).arrAt 4 cfg0.N, Cert.Kernel2Ideal.Value.run_blocks m g, ?_⟩
  refine (θ_run _ _ _).mono (fun r h c => ⟨?_, (h c).2⟩) (Cert.Reference2Ideal.Value.run m' g')
  obtain ⟨h0, h1, h2, h3⟩ := hm c
  beta_reduce
  rw [final m c, X0, X1, X2, X3, ← h0, ← h1, ← h2, ← h3]
  exact (h c).1.trans (val_main_v21_eq _ _ _ _)

end Cert.Mlp
-- ==== Proof.Carry.lean ====
module

public import Mathlib.Order.Basic
public import Mathlib.Tactic.Common

@[expose] public section

namespace Cert.Carry

/-- A scratch that every `p`-th point, the first one among them, sets to `R` of its number, and the others leave,
    holds `R` after every point, if `R` is the same for all points of a stretch. -/
theorem holds {α : Type} {N : ℕ} (p : ℕ) (s : ∀ n : ℕ, n < N → α) (R : ℕ → α)
    (set : ∀ n h, n % p = 0 → s n h = R n) (leave : ∀ n h, ¬ (n + 1) % p = 0 → s (n + 1) h = s n (Nat.lt_of_succ_lt h))
    (same : ∀ n, ¬ (n + 1) % p = 0 → R (n + 1) = R n) : ∀ n h, s n h = R n := by
  intro n
  induction n with
  | zero => exact fun h => set 0 h (Nat.zero_mod p)
  | succ n ih =>
    intro h
    by_cases h0 : (n + 1) % p = 0
    · exact set (n + 1) h h0
    · rw [leave n h h0, ih, same n h0]

end Cert.Carry
-- ==== Proof.Nmm.lean ====
module

public import proofs.«01_k».proof.Defs
public import proofs.«01_k».proof.Proof.Gen.Kernel3Ideal.Value
public import proofs.«01_k».proof.Proof.Gen.Reference3Ideal.Read
public import proofs.«01_k».proof.Proof.Carry
public import Idealize.ShloMosaic.Lib.Pipeline.ValueKit.Point
public import Idealize.ShloMosaic.Lib.Pipeline.ReadBack

@[expose] public section

noncomputable section

namespace Cert.Nmm

open Cert.Kernel3Ideal Cert.Kernel3Ideal.Gen Idealize.ShloMosaic Idealize.ShloMosaic.TcCoe Idealize.SL.Sem
open Idealize.ShloMosaic.Pipeline (Dat)
open Cert.Reference3Ideal.Read

variable (m : (ℓ : Loc nD τ sig) → Buf (Elt Ideal) ℓ)

theorem e0 : ∀ t : Fin cfg0.N, win0_0.index t = ![t.val / 12, 0] :=
  (by decide +kernel : ∀ t : Fin grid0.N, win0_0.index t = ![t.val / 12, 0])
theorem e1 : ∀ t : Fin cfg0.N, win0_1.index t = ![0, 0] :=
  (by decide +kernel : ∀ t : Fin grid0.N, win0_1.index t = ![0, 0])
theorem e2 : ∀ t : Fin cfg0.N, win0_2.index t = ![0, 0, t.val % 12] :=
  (by decide +kernel : ∀ t : Fin grid0.N, win0_2.index t = ![0, 0, t.val % 12])
theorem e4 : ∀ t : Fin cfg0.N, win0_4.index t = ![t.val / 12, t.val % 12] :=
  (by decide +kernel : ∀ t : Fin grid0.N, win0_4.index t = ![t.val / 12, t.val % 12])

/-- The normalised input of the reference at a row and a column. -/
def hn (a0 : S8192x2048.Idx → EReal) (a1 : S2048.Idx → EReal) (r : Fin 8192) (k : Fin 2048) : EReal :=
  val_main_v12 (F := Ideal) a0 a1 (ix2 r k)

/-- The reference's result at an index. -/
theorem ref_apply (a0 : S8192x2048.Idx → EReal) (a1 : S2048.Idx → EReal) (a2 : S2x2048x12352.Idx → EReal) (i : S8192x12288.Idx) :
    val_main_v16 (F := Ideal) a0 a1 a2 i
      = ∑ k : Fin 2048, hn a0 a1 (i 0) k * a2 (ix3 0 k ⟨(i 1).val, Nat.lt_trans (i 1).isLt (by decide)⟩) := by
  unfold hn
  pointwise [val_main_v16, val_main_v15, val_main_v14, val_main_v13]

/-- A point's tile at an index: the row's product with the weight tile's column. -/
theorem pay2_apply (h : S1024x2048.Idx → EReal) (w : S1x2048x1024.Idx → EReal) (j) :
    k0_pay2 (F := Ideal) h w j = ∑ k : Fin 2048, h (ix2 (j 0) k) * w (ix3 0 k (j 1)) := by
  pointwise [k0_pay2]

/-- The argument arrays of the kernel, as functions of their indices. -/
abbrev X0 (c : Dev nD) : S8192x2048.Idx → EReal := m ((c : Thread nD τ).loc main_arg0)
abbrev X1 (c : Dev nD) : S2048.Idx → EReal := m ((c : Thread nD τ).loc main_arg1)
abbrev X2 (c : Dev nD) : S2x2048x12352.Idx → EReal := m ((c : Thread nD τ).loc main_arg2)

/-- The row of the arrays that the row of `j` is in point `n`'s blocks. -/
def row (n : ℕ) (j : S1024x2048.Idx) : Fin 8192 := ⟨(1024 * (n / 12) + (j 0).val) % 8192, Nat.mod_lt _ (by decide)⟩

/-- What a point of run place 0 stores as the normalised rows. -/
theorem nrm_eq (c : Dev nD) (t : Fin cfg0.N) (j : S1024x2048.Idx) :
    k0_pay1 (F := Ideal) (iblk m c 0 t) (iblk m c 1 t) j
      = hn (X0 m c) (X1 m c) (row t.val j) (j 1) := by
  have hN : cfg0.N = 96 := N_0
  have ht : t.val < 96 := lt_of_lt_of_eq t.isLt N_0
  unfold hn row
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

theorem w_eq (c : Dev nD) (t : Fin cfg0.N) (k : Fin 2048) (l : Fin 1024) :
    iblk m c 2 t (ix3 0 k l) = X2 m c (ix3 0 k ⟨t.val % 12 * 1024 + l.val, by omega⟩) := by
  blk_ext! [iblk, V, e2 t]

/-- The carried scratch holds the normalised rows of the point's row block after every point. -/
theorem carried (c : Dev nD) : ∀ n hlt, (outsAt0 m c n hlt).2 = fun j => hn (X0 m c) (X1 m c) (row n j) (j 1) :=
  Cert.Carry.holds 12 (fun n h => (outsAt0 m c n h).2) (fun n j => hn (X0 m c) (X1 m c) (row n j) (j 1))
    (fun n h h0 => by
      refine Eq.trans ?_ (funext fun j => nrm_eq m c ⟨n, h⟩ j)
      beta_reduce
      rw [outsAt0_A m c ⟨n, h⟩ h0]
      frame_out)
    (fun n h h0 => by
      beta_reduce
      rw [outsAt0_B m c ⟨n + 1, h⟩ h0]
      rfl)
    (fun n h0 => funext fun j => by simp only [row, show (n + 1) / 12 = n / 12 by omega])

/-- Every point's output tile is the product of its normalised rows and its weight tile. -/
theorem out_eq (c : Dev nD) (t : Fin cfg0.N) :
    (outsAt0 m c t.val t.isLt).1 = k0_pay2 (outsAt0 m c t.val t.isLt).2 (iblk m c 2 t) := by
  by_cases h0 : t.val % 12 = 0
  · rw [outsAt0_A m c t h0]
    frame_out
  · rw [outsAt0_B m c t h0]
    frame_out
    rw [read_unread_whole]
    rfl

theorem final (c : Dev nD) : (dats m 0 c).arrAt 4 cfg0.N
    = val_main_v16 (F := Ideal) (X0 m c) (X1 m c) (X2 m c) := by
  refine (dats m 0 c).arrAt_eq_of_covers 4 _ (by decide +kernel) fun t hf y => ?_
  have hN : cfg0.N = 96 := N_0
  have ht : t.val < 96 := lt_of_lt_of_eq t.isLt N_0
  blk_simp
  rw [after0_4, out_eq m c t, carried m c]
  refine (pay2_apply _ _ y).trans ?_
  rw [ref_apply]
  refine Finset.sum_congr rfl fun k _ => congrArg₂ (· * ·) ?_ ?_
  · refine congrArg₂ (hn (X0 m c) (X1 m c)) ?_ rfl
    refine Fin.ext ?_
    show (1024 * (t.val / 12) + (y 0).val) % 8192 = _
    have hy : (y 0).val < 1024 := (y 0).isLt
    blk_simp [e4 t]
    omega
  · refine (w_eq m c t k (y 1)).trans (congrArg (fun l => X2 m c (ix3 0 k l)) ?_)
    refine Fin.ext ?_
    blk_simp [e4 t]

/-- The kernel's run and the reference's, from equal arguments, end with equal results. -/
theorem alg : Cert.algebraic_Kernel3Ideal_Reference3Ideal := by
  intro m g m' g' _ hm
  refine ⟨fun c => (dats m 0 c).arrAt 4 cfg0.N, Cert.Kernel3Ideal.Value.run_blocks m g, ?_⟩
  refine (θ_run _ _ _).mono (fun r h c => ⟨?_, (h c).2⟩) (Cert.Reference3Ideal.Value.run m' g')
  obtain ⟨h0, h1, h2⟩ := hm c
  beta_reduce
  rw [final m c, X0, X1, X2, ← h0, ← h1, ← h2]
  exact (h c).1.trans (val_main_v16_eq _ _ _)

end Cert.Nmm
-- ==== Proof.MmRes.lean ====
module

public import proofs.«01_k».proof.Defs
public import proofs.«01_k».proof.Proof.Gen.Kernel4Ideal.Value
public import proofs.«01_k».proof.Proof.Gen.Reference4Ideal.Read
public import Idealize.ShloMosaic.Lib.Pipeline.ValueKit.Point

@[expose] public section

noncomputable section

namespace Cert.MmRes

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0, (grid0.coords t 1).val] :=
  (by decide +kernel : ∀ t : Fin grid0.N, win0_1.index t = ![0, 0, (grid0.coords t 1).val])
theorem e2 : ∀ t : Fin cfg0.N, win0_2.index t = ![(grid0.coords t 0).val, (grid0.coords t 1).val] :=
  (by decide +kernel : ∀ t : Fin grid0.N, win0_2.index t = ![(grid0.coords t 0).val, (grid0.coords t 1).val])
theorem e3 : ∀ t : Fin cfg0.N, win0_3.index t = ![(grid0.coords t 0).val, (grid0.coords t 1).val] :=
  (by decide +kernel : ∀ t : Fin grid0.N, win0_3.index t = ![(grid0.coords t 0).val, (grid0.coords t 1).val])

/-- The reference's result at an index: the residual plus the row of the left operand times the column of layer 0's weight. -/
theorem ref_apply (a0 : S8192x4096.Idx → EReal) (a1 : S2x4096x2048.Idx → EReal) (a2 : S8192x2048.Idx → EReal) (i : S8192x2048.Idx) :
    Cert.Reference4Ideal.Read.val_main_v4 (F := Ideal) a0 a1 a2 i
      = a2 i + ∑ k : Fin 4096, a0 (ix2 (i 0) k) * a1 (ix3 0 k (i 1)) := by
  pointwise [Cert.Reference4Ideal.Read.val_main_v4, Cert.Reference4Ideal.Read.val_main_v3, Cert.Reference4Ideal.Read.val_main_v0, Cert.Reference4Ideal.Read.val_main_v2, Cert.Reference4Ideal.Read.val_main_v1]

theorem final (c : Dev nD) : (dats m 0 c).arrAt 3 cfg0.N
    = Cert.Reference4Ideal.Read.val_main_v4 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp
  rw [after0_3]; frame_out
  rw [ref_apply]
  pointwise [k0_pay1]
  blk_point [iblk, V, V_main_arg0, V_main_arg2, e0 t, e1 t, e2 t, e3 t]

/-- The kernel's run and the reference's, from equal arguments, end with equal results. -/
theorem alg : Cert.algebraic_Kernel4Ideal_Reference4Ideal := by
  intro m g m' g' _ hm
  refine ⟨fun c => (dats m 0 c).arrAt 3 cfg0.N, Cert.Kernel4Ideal.Value.run_blocks m g, ?_⟩
  refine (θ_run _ _ _).mono (fun r h c => ⟨?_, (h c).2⟩) (Cert.Reference4Ideal.Value.run m' g')
  obtain ⟨h0, h1, h2⟩ := hm c
  beta_reduce
  rw [final m c, ← h0, ← h1, ← h2]
  exact (h c).1.trans (Cert.Reference4Ideal.Read.val_main_v4_eq _ _ _)

end Cert.MmRes
-- ==== Proof.HeadNorm.lean ====
module

public import Idealize.ShloMosaic.Lib.Pipeline.ValueKit.Point

@[expose] public section

noncomputable section

namespace Cert.HeadNorm

open Idealize.ShloMosaic

/-- The root-mean-square norm of a head of 128 entries, at one of them. -/
def nrm (a : Fin 128 → EReal) (d : Fin 128) : EReal :=
  a d * Ideal.rsqrt (Ideal.div (∑ x, a x * a x) (Ideal.ofBits .f32 1124073472#32) + Ideal.ofBits .f32 897988541#32)

/-- The six sections of a row of keys and values, from its product `P` (section, head, entry): the keys of the second and
    third branch normed over their head and multiplied by the branch's gains, the other sections as they are. -/
def part (P : Fin 6 → Fin 4 → Fin 128 → EReal) (sel win : Fin 128 → EReal) (g : Fin 4) (d : Fin 128) : Fin 6 → EReal
  | 2 => nrm (P 2 g) d * sel d
  | 4 => nrm (P 4 g) d * win d
  | s => P s g d

/-- An entry of a section's four heads, by its head and its place in the head. -/
theorem exists_head (l : Fin 512) : ∃ (g : Fin 4) (d : Fin 128), l = ⟨g.val * 128 + d.val, by omega⟩ :=
  ⟨⟨l.val / 128, by omega⟩, ⟨l.val % 128, by omega⟩, Fin.ext (show l.val = l.val / 128 * 128 + l.val % 128 by omega)⟩

end Cert.HeadNorm
-- ==== Proof.Kv.lean ====
module

public import proofs.«01_k».proof.Defs
public import proofs.«01_k».proof.Proof.Gen.Kernel5Ideal.Value
public import proofs.«01_k».proof.Proof.Gen.Reference5Ideal.Read
public import proofs.«01_k».proof.Proof.HeadNorm
public import Idealize.ShloMosaic.Lib.Pipeline.ValueKit.Point
public import Idealize.ShloMosaic.Lib.Pipeline.ReadBack
public import Idealize.ShloMosaic.Lib.StableHlo.RunRead

@[expose] public section

noncomputable section

namespace Cert.Kv

open Cert.Kernel5Ideal Cert.Kernel5Ideal.Gen Idealize.ShloMosaic Idealize.ShloMosaic.TcCoe Idealize.SL.Sem
open Idealize.ShloMosaic.Pipeline (Dat)
open Cert.Reference5Ideal.Read Cert.HeadNorm

/-- The normalised input of the reference at a row and a column. -/
def hn (a0 : S8192x2048.Idx → EReal) (a1 : S2048.Idx → EReal) (r : Fin 8192) (k : Fin 2048) : EReal :=
  val_main_v12 (F := Ideal) a0 a1 (ix2 r k)

section
variable (a0 : S8192x2048.Idx → EReal) (a1 : S2048.Idx → EReal) (a2 : S2048x3072.Idx → EReal)
  (a3 a4 : S128.Idx → EReal) (r : Fin 8192) (g : Fin 4) (d : Fin 128)

/-- The reference's product at a row, one of the six sections of columns, a head and an entry of it. -/
theorem acc_apply (s : Fin 6) :
    val_main_v14 (F := Ideal) a0 a1 a2 (ix4 r s g d)
      = ∑ k : Fin 2048, hn a0 a1 r k * a2 (ix2 k ⟨(s.val * 4 + g.val) * 128 + d.val, by omega⟩) := by
  have e : (s.val * 4 + g.val) * 128 + d.val = s.val * 512 + g.val * 128 + d.val := by omega
  unfold hn
  simp only [e]
  pointwise [val_main_v14, val_main_v13]

theorem sel_apply : val_main_v31 (F := Ideal) a0 a1 a2 a3 (ix3 r g d)
    = nrm (fun x => val_main_v14 (F := Ideal) a0 a1 a2 (ix4 r 2 g x)) d * a3 (ix1 d) := by
  unfold nrm
  pointwise [val_main_v31, val_main_v30, val_main_v29, val_main_v28, val_main_v27, val_main_v26, val_main_v25, val_main_v24, val_main_cst_4, val_main_v23, val_main_v22, val_main_cst_3, val_main_v21, val_main_v20, val_main_cst_2, val_main_v19, val_main_v16, val_main_v15]

theorem win_apply : val_main_v44 (F := Ideal) a0 a1 a2 a4 (ix3 r g d)
    = nrm (fun x => val_main_v14 (F := Ideal) a0 a1 a2 (ix4 r 4 g x)) d * a4 (ix1 d) := by
  unfold nrm
  pointwise [val_main_v44, val_main_v43, val_main_v42, val_main_v41, val_main_v40, val_main_v39, val_main_v38, val_main_v37, val_main_cst_7, val_main_v36, val_main_v35, val_main_cst_6, val_main_v34, val_main_v33, val_main_cst_5, val_main_v32, val_main_v18, val_main_v17]

/-- The six sections of the reference's row `r`. -/
abbrev rowPart (s : Fin 6) : EReal :=
  part (fun s g x => val_main_v14 (F := Ideal) a0 a1 a2 (ix4 r s g x)) (fun d => a3 (ix1 d)) (fun d => a4 (ix1 d)) g d s

/-- The reference's stack of the three branches' rows. -/
theorem stack_apply (b : Fin 3) (v : Fin 2) :
    val_main_v60 (F := Ideal) a0 a1 a2 a3 a4 (ix3 b r ⟨v.val * 512 + (g.val * 128 + d.val), by omega⟩)
      = val_main_v59 (F := Ideal) a0 a1 a2 a3 a4 (ix5 b r v g d) := by
  pointwise [val_main_v60]

theorem s0 : val_main_v59 (F := Ideal) a0 a1 a2 a3 a4 (ix5 0 r 0 g d) = rowPart a0 a1 a2 a3 a4 r g d 0 := by
  unfold rowPart part
  pointwise [val_main_v59, val_main_v56, val_main_v45]
theorem s1 : val_main_v59 (F := Ideal) a0 a1 a2 a3 a4 (ix5 0 r 1 g d) = rowPart a0 a1 a2 a3 a4 r g d 1 := by
  unfold rowPart part
  pointwise [val_main_v59, val_main_v56, val_main_v45]
theorem s2 : val_main_v59 (F := Ideal) a0 a1 a2 a3 a4 (ix5 1 r 0 g d) = rowPart a0 a1 a2 a3 a4 r g d 2 := by
  unfold rowPart part
  rw [← sel_apply]
  pointwise [val_main_v59, val_main_v57, val_main_v50, val_main_v48]
theorem s3 : val_main_v59 (F := Ideal) a0 a1 a2 a3 a4 (ix5 1 r 1 g d) = rowPart a0 a1 a2 a3 a4 r g d 3 := by
  unfold rowPart part
  pointwise [val_main_v59, val_main_v57, val_main_v50, val_main_v49, val_main_v47, val_main_v46]
theorem s4 : val_main_v59 (F := Ideal) a0 a1 a2 a3 a4 (ix5 2 r 0 g d) = rowPart a0 a1 a2 a3 a4 r g d 4 := by
  unfold rowPart part
  rw [← win_apply]
  pointwise [val_main_v59, val_main_v58, val_main_v55, val_main_v53]
theorem s5 : val_main_v59 (F := Ideal) a0 a1 a2 a3 a4 (ix5 2 r 1 g d) = rowPart a0 a1 a2 a3 a4 r g d 5 := by
  unfold rowPart part
  pointwise [val_main_v59, val_main_v58, val_main_v55, val_main_v54, val_main_v52, val_main_v51]

/-- The stack at section `s`. -/
theorem section_apply : ∀ s : Fin 6,
    val_main_v59 (F := Ideal) a0 a1 a2 a3 a4 (ix5 ⟨s.val / 2, by omega⟩ r ⟨s.val % 2, by omega⟩ g d) = rowPart a0 a1 a2 a3 a4 r g d s
  | 0 => s0 a0 a1 a2 a3 a4 r g d
  | 1 => s1 a0 a1 a2 a3 a4 r g d
  | 2 => s2 a0 a1 a2 a3 a4 r g d
  | 3 => s3 a0 a1 a2 a3 a4 r g d
  | 4 => s4 a0 a1 a2 a3 a4 r g d
  | 5 => s5 a0 a1 a2 a3 a4 r g d

/-- The reference's result at an index of section `s`. -/
theorem ref_apply (s : Fin 6) :
    val_main_v60 (F := Ideal) a0 a1 a2 a3 a4 (ix3 ⟨s.val / 2, by omega⟩ r ⟨s.val % 2 * 512 + (g.val * 128 + d.val), by omega⟩)
      = rowPart a0 a1 a2 a3 a4 r g d s :=
  (stack_apply a0 a1 a2 a3 a4 r g d ⟨s.val / 2, by omega⟩ ⟨s.val % 2, by omega⟩).trans
    (section_apply a0 a1 a2 a3 a4 r g d s)
end

section
variable (h : S1024x2048.Idx → EReal) (w : S2048x512.Idx → EReal) (u : S1x1x512.Idx → EReal) (r : Fin 1024) (d : Fin 128)

theorem pay2_apply (l : Fin 512) :
    k0_pay2 (F := Ideal) h w (ix2 r l) = ∑ k : Fin 2048, h (ix2 r k) * w (ix2 k l) := by
  pointwise [k0_pay2]

theorem pay4_apply (l : Fin 512) :
    k0_pay4 (F := Ideal) h w (ix3 0 r l) = k0_pay2 (F := Ideal) h w (ix2 r l) := by
  pointwise [k0_pay4]

/-- What a point of a normed section stores, from its normalised rows, its weight tile and its gains. -/
abbrev tile : S1x1024x512.Idx → EReal :=
  k0_pay3 (F := Ideal) (k0_pay5 u) (k0_pay6 (k0_pay2 h w)) (k0_pay7 (k0_pay2 h w)) (k0_pay8 (k0_pay2 h w)) (k0_pay9 (k0_pay2 h w)) (k0_pay10 (k0_pay2 h w))

/-- The claim of `tile_apply` for the head whose columns begin at `o`. -/
abbrev TileAt (o : ℕ) (ho : o + 128 ≤ 512) : Prop :=
  tile h w u (ix3 0 r ⟨o + d.val, by omega⟩)
    = nrm (fun x => k0_pay2 (F := Ideal) h w (ix2 r ⟨o + x.val, by omega⟩)) d * u (ix3 0 0 ⟨o + d.val, by omega⟩)

theorem tile_0 : TileAt h w u r d 0 (by decide) := by
  unfold TileAt nrm
  simp only [Nat.zero_add]
  pointwise [k0_pay3, k0_pay5, k0_pay6, k0_pay7, k0_pay8, k0_pay9, k0_pay10]
theorem tile_1 : TileAt h w u r d 128 (by decide) := by
  unfold TileAt nrm
  pointwise [k0_pay3, k0_pay5, k0_pay6, k0_pay7, k0_pay8, k0_pay9, k0_pay10]
theorem tile_2 : TileAt h w u r d 256 (by decide) := by
  unfold TileAt nrm
  pointwise [k0_pay3, k0_pay5, k0_pay6, k0_pay7, k0_pay8, k0_pay9, k0_pay10]
  have g1 : ¬ 256 + d.val < 128 := by omega
  have g2 : ¬ 256 + d.val - 128 < 128 := by omega
  have g3 :  256 + d.val - 128 - 128 < 128 := by omega
  have e' : 256 + d.val - 128 - 128 = d.val := by omega
  simp only [dif_neg g1, dif_neg g2, dif_pos g3, e', Fin.eta, dif_pos d.isLt]
theorem tile_3 : TileAt h w u r d 384 (by decide) := by
  unfold TileAt nrm
  pointwise [k0_pay3, k0_pay5, k0_pay6, k0_pay7, k0_pay8, k0_pay9, k0_pay10]
  have g1 : ¬ 384 + d.val < 128 := by omega
  have g2 : ¬ 384 + d.val - 128 < 128 := by omega
  have g3 : ¬ 384 + d.val - 128 - 128 < 128 := by omega
  have e' : 384 + d.val - 128 - 128 - 128 = d.val := by omega
  simp only [dif_neg g1, dif_neg g2, dif_neg g3, e', Fin.eta]

/-- What a point of a normed section stores at a row and an entry of one of its four heads. -/
theorem tile_apply (g : Fin 4) : TileAt h w u r d (g.val * 128) (by omega) :=
  match g with
  | 0 => tile_0 h w u r d
  | 1 => tile_1 h w u r d
  | 2 => tile_2 h w u r d
  | 3 => tile_3 h w u r d
end

variable (m : (ℓ : Loc nD τ sig) → Buf (Elt Ideal) ℓ)

theorem e0 : ∀ t : Fin cfg0.N, win0_0.index t = ![t.val / 6, 0] :=
  (by decide +kernel : ∀ t : Fin grid0.N, win0_0.index t = ![t.val / 6, 0])
theorem e1 : ∀ t : Fin cfg0.N, win0_1.index t = ![0, 0] :=
  (by decide +kernel : ∀ t : Fin grid0.N, win0_1.index t = ![0, 0])
theorem e2 : ∀ t : Fin cfg0.N, win0_2.index t = ![0, t.val % 6] :=
  (by decide +kernel : ∀ t : Fin grid0.N, win0_2.index t = ![0, t.val % 6])
theorem e3 : ∀ t : Fin cfg0.N, win0_3.index t = ![t.val % 6, 0, 0] :=
  (by decide +kernel : ∀ t : Fin grid0.N, win0_3.index t = ![t.val % 6, 0, 0])
theorem e4 : ∀ t : Fin cfg0.N, win0_4.index t = ![t.val % 6 / 2, t.val / 6, t.val % 6 % 2] :=
  (by decide +kernel : ∀ t : Fin grid0.N, win0_4.index t = ![t.val % 6 / 2, t.val / 6, t.val % 6 % 2])

theorem state_A (c : Dev nD) (t : Fin cfg0.N) (h0 : t.val % 6 = 0) :
    (outsAt0 m c t.val t.isLt).2 = k0_pay1 (iblk m c 0 t) (iblk m c 1 t)
    ∧ (outsAt0 m c t.val t.isLt).1 = k0_pay4 (outsAt0 m c t.val t.isLt).2 (iblk m c 2 t) := by
  rw [outsAt0_A m c t h0 (by omega) (by omega)]
  constructor
  · frame_out
  · frame_out

theorem state_B (c : Dev nD) (t : Fin cfg0.N) (h0 : ¬ t.val % 6 = 0) (h1 : ¬ (t.val % 6 = 2 ∨ t.val % 6 = 4)) :
    (outsAt0 m c t.val t.isLt).2 = (outsAt0 m c (t.val - 1) (Nat.lt_of_le_of_lt (Nat.sub_le _ _) t.isLt)).2
    ∧ (outsAt0 m c t.val t.isLt).1 = k0_pay4 (outsAt0 m c t.val t.isLt).2 (iblk m c 2 t) := by
  rw [outsAt0_B m c t h0 h1 h1]
  constructor
  · rfl
  · frame_out
    rw [read_unread_whole]
    rfl

theorem state_C (c : Dev nD) (t : Fin cfg0.N) (h1 : t.val % 6 = 2 ∨ t.val % 6 = 4) :
    (outsAt0 m c t.val t.isLt).2 = (outsAt0 m c (t.val - 1) (Nat.lt_of_le_of_lt (Nat.sub_le _ _) t.isLt)).2
    ∧ (outsAt0 m c t.val t.isLt).1 = tile (outsAt0 m c t.val t.isLt).2 (iblk m c 2 t) (iblk m c 3 t) := by
  rw [outsAt0_C m c t (by omega) h1 (not_not_intro h1)]
  constructor
  · rfl
  · frame_out
    rw [read_unread_whole]
    rfl

/-- The argument arrays of the kernel, as functions of their indices. -/
abbrev X0 (c : Dev nD) : S8192x2048.Idx → EReal := m ((c : Thread nD τ).loc main_arg0)
abbrev X1 (c : Dev nD) : S2048.Idx → EReal := m ((c : Thread nD τ).loc main_arg1)
abbrev X2 (c : Dev nD) : S2048x3072.Idx → EReal := m ((c : Thread nD τ).loc main_arg2)
abbrev X3 (c : Dev nD) : S128.Idx → EReal := m ((c : Thread nD τ).loc main_arg3)
abbrev X4 (c : Dev nD) : S128.Idx → EReal := m ((c : Thread nD τ).loc main_arg4)

/-- The row of the arrays that row `r` of point `n`'s blocks is. -/
def row (n : ℕ) (r : Fin 1024) : Fin 8192 := ⟨(1024 * (n / 6) + r.val) % 8192, Nat.mod_lt _ (by decide)⟩

/-- What a point of run place 0 stores as the normalised rows. -/
theorem nrm_eq (c : Dev nD) (t : Fin cfg0.N) (j : S1024x2048.Idx) :
    k0_pay1 (F := Ideal) (iblk m c 0 t) (iblk m c 1 t) j
      = hn (X0 m c) (X1 m c) (row t.val (j 0)) (j 1) := by
  have ht : t.val < 48 := lt_of_lt_of_eq t.isLt N_0
  unfold hn row
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

theorem w_eq (c : Dev nD) (t : Fin cfg0.N) (k : Fin 2048) (l : Fin 512) :
    iblk m c 2 t (ix2 k l) = X2 m c (ix2 k ⟨t.val % 6 * 512 + l.val, by omega⟩) := by
  blk_ext! [iblk, V, e2 t]

set_option maxRecDepth 4000 in
/-- The gains the host lays out for the six sections: the two key sections' ones. -/
theorem aux_eq (c : Dev nD) (g : Fin 4) (d : Fin 128) :
    V m c main_v11 (ix3 2 0 ⟨g.val * 128 + d.val, by omega⟩) = X3 m c (ix1 d)
    ∧ V m c main_v11 (ix3 4 0 ⟨g.val * 128 + d.val, by omega⟩) = X4 m c (ix1 d) := by
  have e : (g.val * 128 + d.val) % 128 = d.val := by omega
  constructor
  · after_reads_simp
    pointwise
    after_reads_simp
    pointwise
    simp only [e]
  · after_reads_simp
    pointwise
    after_reads_simp
    pointwise
    simp only [e]

theorem u2_eq (c : Dev nD) (t : Fin cfg0.N) (h2 : t.val % 6 = 2) (g : Fin 4) (d : Fin 128) :
    iblk m c 3 t (ix3 0 0 ⟨g.val * 128 + d.val, by omega⟩) = X3 m c (ix1 d) := by
  have e3' := e3 t
  rw [h2] at e3'
  refine Eq.trans ?_ (aux_eq m c g d).1
  blk_ext [iblk, e3']
theorem u4_eq (c : Dev nD) (t : Fin cfg0.N) (h2 : t.val % 6 = 4) (g : Fin 4) (d : Fin 128) :
    iblk m c 3 t (ix3 0 0 ⟨g.val * 128 + d.val, by omega⟩) = X4 m c (ix1 d) := by
  have e3' := e3 t
  rw [h2] at e3'
  refine Eq.trans ?_ (aux_eq m c g d).2
  blk_ext [iblk, e3']

/-- The carried scratch holds the normalised rows of the point's row block after every point. -/
theorem state (c : Dev nD) : ∀ (n : ℕ) (hlt : n < cfg0.N),
    ∀ j : S1024x2048.Idx, (outsAt0 m c n hlt).2 j = hn (X0 m c) (X1 m c) (row n (j 0)) (j 1) := by
  intro n
  induction n with
  | zero =>
    intro hlt j
    obtain ⟨h1, -⟩ := state_A m c ⟨0, hlt⟩ (by rfl)
    dsimp only at h1
    rw [h1, nrm_eq]
  | succ n ih =>
    intro hlt j
    by_cases h0 : (n + 1) % 6 = 0
    · obtain ⟨h1, -⟩ := state_A m c ⟨n + 1, hlt⟩ h0
      dsimp only at h1
      rw [h1, nrm_eq]
    · have h1 : (outsAt0 m c (n + 1) hlt).2 = (outsAt0 m c n (Nat.lt_of_succ_lt hlt)).2 := by
        by_cases h2 : (n + 1) % 6 = 2 ∨ (n + 1) % 6 = 4
        · exact (state_C m c ⟨n + 1, hlt⟩ h2).1
        · exact (state_B m c ⟨n + 1, hlt⟩ h0 h2).1
      have hd : (n + 1) / 6 = n / 6 := by omega
      have hr : row (n + 1) (j 0) = row n (j 0) := by unfold row; simp only [hd]
      rw [h1, ih, hr]

/-- A point's product at a row and an entry of one of its heads is the reference's, in the point's section. -/
theorem prod_eq (c : Dev nD) (t : Fin cfg0.N) (r : Fin 1024) (g : Fin 4) (x : Fin 128) (s : Fin 6) (hs : t.val % 6 = s.val) :
    k0_pay2 (F := Ideal) (outsAt0 m c t.val t.isLt).2 (iblk m c 2 t) (ix2 r ⟨g.val * 128 + x.val, by omega⟩)
      = val_main_v14 (F := Ideal) (X0 m c) (X1 m c) (X2 m c) (ix4 (row t.val r) s g x) := by
  rw [pay2_apply, acc_apply]
  refine Finset.sum_congr rfl fun k _ => congrArg₂ (· * ·) (state m c t.val t.isLt _) ?_
  refine (w_eq m c t k _).trans (congrArg (fun l => X2 m c (ix2 k l)) (Fin.ext ?_))
  show t.val % 6 * 512 + (g.val * 128 + x.val) = (s.val * 4 + g.val) * 128 + x.val
  omega

/-- What a point of a section that is not normed stores. -/
theorem plain_eq (c : Dev nD) (t : Fin cfg0.N) (h1 : ¬ (t.val % 6 = 2 ∨ t.val % 6 = 4)) (r : Fin 1024) (g : Fin 4) (d : Fin 128)
    (s : Fin 6) (hs : t.val % 6 = s.val) :
    (outsAt0 m c t.val t.isLt).1 (ix3 0 r ⟨g.val * 128 + d.val, by omega⟩)
      = val_main_v14 (F := Ideal) (X0 m c) (X1 m c) (X2 m c) (ix4 (row t.val r) s g d) := by
  have e : (outsAt0 m c t.val t.isLt).1 = k0_pay4 (outsAt0 m c t.val t.isLt).2 (iblk m c 2 t) := by
    by_cases h0 : t.val % 6 = 0
    · exact (state_A m c t h0).2
    · exact (state_B m c t h0 h1).2
  rw [e, pay4_apply]
  exact prod_eq m c t r g d s hs

/-- What a point stores is the reference's result in its section. -/
theorem out_eq (c : Dev nD) (t : Fin cfg0.N) (r : Fin 1024) (g : Fin 4) (d : Fin 128) :
    ∀ (s : Fin 6) (hs : t.val % 6 = s.val), (outsAt0 m c t.val t.isLt).1 (ix3 0 r ⟨g.val * 128 + d.val, by omega⟩)
      = rowPart (X0 m c) (X1 m c) (X2 m c) (X3 m c) (X4 m c) (row t.val r) g d s
  | 0, hs => plain_eq m c t (by rw [hs]; decide) r g d 0 hs
  | 1, hs => plain_eq m c t (by rw [hs]; decide) r g d 1 hs
  | 2, hs => by
    rw [(state_C m c t (.inl hs)).2]
    refine (tile_apply _ _ _ r d g).trans ?_
    rw [u2_eq m c t hs]
    exact congrArg (fun f => nrm f d * _) (funext fun x => prod_eq m c t r g x 2 hs)
  | 3, hs => plain_eq m c t (by rw [hs]; decide) r g d 3 hs
  | 4, hs => by
    rw [(state_C m c t (.inr hs)).2]
    refine (tile_apply _ _ _ r d g).trans ?_
    rw [u4_eq m c t hs]
    exact congrArg (fun f => nrm f d * _) (funext fun x => prod_eq m c t r g x 4 hs)
  | 5, hs => plain_eq m c t (by rw [hs]; decide) r g d 5 hs

theorem final (c : Dev nD) : (dats m 0 c).arrAt 4 cfg0.N
    = val_main_v60 (F := Ideal) (X0 m c) (X1 m c) (X2 m c) (X3 m c) (X4 m c) := by
  refine (dats m 0 c).arrAt_eq_of_covers 4 _ (by decide +kernel) fun t hf y => ?_
  have ht : t.val < 48 := lt_of_lt_of_eq t.isLt N_0
  blk_simp
  rw [after0_4]
  obtain ⟨r, g, d, rfl⟩ : ∃ (r : Fin 1024) (g : Fin 4) (d : Fin 128), y = ix3 0 r ⟨g.val * 128 + d.val, by omega⟩ := by
    obtain ⟨g, d, h⟩ := exists_head (y 2)
    refine ⟨y 1, g, d, ?_⟩
    rw [← h]
    funext a
    match a with
    | 0 => exact Fin.ext (show (y 0).val = 0 by have h0 : (y 0).val < 1 := (y 0).isLt; omega)
    | 1 => rfl
    | 2 => rfl
  refine (out_eq m c t r g d ⟨t.val % 6, by omega⟩ rfl).trans ?_
  refine (ref_apply _ _ _ _ _ _ _ _ _).symm.trans (congrArg _ ?_)
  funext a
  match a with
  | 0 =>
    refine Fin.ext ?_
    show t.val % 6 / 2 = _
    blk_simp [e4 t]
    rfl
  | 1 =>
    refine Fin.ext ?_
    show (1024 * (t.val / 6) + r.val) % 8192 = _
    blk_simp [e4 t]
    omega
  | 2 =>
    refine Fin.ext ?_
    show t.val % 6 % 2 * 512 + (g.val * 128 + d.val) = _
    blk_simp [e4 t]

/-- The kernel's run and the reference's, from equal arguments, end with equal results. -/
theorem alg : Cert.algebraic_Kernel5Ideal_Reference5Ideal := by
  intro m g m' g' _ hm
  refine ⟨fun c => (dats m 0 c).arrAt 4 cfg0.N, Cert.Kernel5Ideal.Value.run_blocks m g, ?_⟩
  refine (θ_run _ _ _).mono (fun r h c => ⟨?_, (h c).2⟩) (Cert.Reference5Ideal.Value.run m' g')
  obtain ⟨h0, h1, h2, h3, h4⟩ := hm c
  beta_reduce
  rw [final m c, X0, X1, X2, X3, X4, ← h0, ← h1, ← h2, ← h3, ← h4]
  exact (h c).1.trans (val_main_v60_eq _ _)

end Cert.Kv
-- ==== Proof.NsaQ.lean ====
module

public import proofs.«01_k».proof.Defs
public import proofs.«01_k».proof.Proof.Gen.Kernel6Ideal.Value
public import proofs.«01_k».proof.Proof.Gen.Reference6Ideal.Read
public import proofs.«01_k».proof.Proof.HeadNorm
public import Idealize.ShloMosaic.Lib.Pipeline.ValueKit.Point
public import Idealize.ShloMosaic.Lib.Pipeline.ReadBack

@[expose] public section

noncomputable section

namespace Cert.NsaQ

open Cert.Kernel6Ideal Cert.Kernel6Ideal.Gen Idealize.ShloMosaic Idealize.ShloMosaic.TcCoe Idealize.SL.Sem
open Idealize.ShloMosaic.Pipeline (Dat)
open Cert.Reference6Ideal.Read Cert.HeadNorm

/-- The normalised input of the reference at a row and a column. -/
def hn (a0 : S8192x2048.Idx → EReal) (a1 : S2048.Idx → EReal) (r : Fin 8192) (k : Fin 2048) : EReal :=
  val_main_v12 (F := Ideal) a0 a1 (ix2 r k)

/-- The reference's product at a row and a column of layer 0's queries. -/
theorem acc_apply (a0 : S8192x2048.Idx → EReal) (a1 : S2048.Idx → EReal) (a2 : S2x2048x2096.Idx → EReal) (r : Fin 8192) (g : Fin 16) (d : Fin 128) :
    val_main_v17 (F := Ideal) a0 a1 a2 (ix3 r g d)
      = ∑ k : Fin 2048, hn a0 a1 r k * a2 (ix3 0 k ⟨g.val * 128 + d.val, by omega⟩) := by
  unfold hn
  pointwise [val_main_v17, val_main_v16, val_main_v15, val_main_v14, val_main_v13]

/-- The reference's result at an index: the head's norm, the gain, and the scale. -/
theorem ref_apply (a0 : S8192x2048.Idx → EReal) (a1 : S2048.Idx → EReal) (a2 : S2x2048x2096.Idx → EReal) (a3 : S128.Idx → EReal) (r : Fin 8192) (g : Fin 16) (d : Fin 128) :
    val_main_v34 (F := Ideal) a0 a1 a2 a3 (ix2 r ⟨g.val * 128 + d.val, by omega⟩)
      = nrm (fun x => val_main_v17 (F := Ideal) a0 a1 a2 (ix3 r g x)) d * a3 (ix1 d) * Ideal.ofBits .f32 1035273459#32 := by
  unfold nrm
  pointwise [val_main_v34, val_main_v33, val_main_v32, val_main_v31, val_main_cst_5, val_main_v30, val_main_v29, val_main_v28, val_main_v27, val_main_v26, val_main_v25, val_main_v24, val_main_v23, val_main_cst_4, val_main_v22, val_main_v21, val_main_cst_3, val_main_v20, val_main_v19, val_main_cst_2, val_main_v18]

section
variable (h : S1024x2048.Idx → EReal) (w : S1x2048x512.Idx → EReal) (u : S1x1x512.Idx → EReal) (r : Fin 1024) (d : Fin 128)

theorem pay3_apply (l : Fin 512) :
    k0_pay3 (F := Ideal) h w (ix2 r l) = ∑ k : Fin 2048, h (ix2 r k) * w (ix3 0 k l) := by
  pointwise [k0_pay3]

/-- What a point stores, from its normalised rows, its weight tile and its gains. -/
abbrev tile : S1024x512.Idx → EReal :=
  k0_pay1 (F := Ideal) (k0_pay3 h w) (k0_pay4 u) (k0_pay5 h w) (k0_pay6 h w) (k0_pay7 h w) (k0_pay8 h w) (Scalar.ofBits .f32 0x358637BD#32)

/-- The claim of `tile_apply` for the head whose columns begin at `o`. -/
abbrev TileAt (o : ℕ) (ho : o + 128 ≤ 512) : Prop :=
  tile h w u (ix2 r ⟨o + d.val, by omega⟩)
    = nrm (fun x => k0_pay3 (F := Ideal) h w (ix2 r ⟨o + x.val, by omega⟩)) d * u (ix3 0 0 ⟨o + d.val, by omega⟩)
      * Ideal.ofBits .f32 1035273459#32

theorem tile_0 : TileAt h w u r d 0 (by decide) := by
  unfold TileAt nrm
  simp only [Nat.zero_add]
  pointwise [k0_pay1, k0_pay4, k0_pay5, k0_pay6, k0_pay7, k0_pay8]
theorem tile_1 : TileAt h w u r d 128 (by decide) := by
  unfold TileAt nrm
  pointwise [k0_pay1, k0_pay4, k0_pay5, k0_pay6, k0_pay7, k0_pay8]
theorem tile_2 : TileAt h w u r d 256 (by decide) := by
  unfold TileAt nrm
  pointwise [k0_pay1, k0_pay4, k0_pay5, k0_pay6, k0_pay7, k0_pay8]
  have g1 : ¬ 256 + d.val < 128 := by omega
  have g2 : ¬ 256 + d.val - 128 < 128 := by omega
  have g3 :  256 + d.val - 128 - 128 < 128 := by omega
  have e' : 256 + d.val - 128 - 128 = d.val := by omega
  simp only [dif_neg g1, dif_neg g2, dif_pos g3, e', Fin.eta, dif_pos d.isLt]
theorem tile_3 : TileAt h w u r d 384 (by decide) := by
  unfold TileAt nrm
  pointwise [k0_pay1, k0_pay4, k0_pay5, k0_pay6, k0_pay7, k0_pay8]
  have g1 : ¬ 384 + d.val < 128 := by omega
  have g2 : ¬ 384 + d.val - 128 < 128 := by omega
  have g3 : ¬ 384 + d.val - 128 - 128 < 128 := by omega
  have e' : 384 + d.val - 128 - 128 - 128 = d.val := by omega
  simp only [dif_neg g1, dif_neg g2, dif_neg g3, e', Fin.eta]

/-- What a point stores at a row and an entry of one of its four heads. -/
theorem tile_apply (g : Fin 4) : TileAt h w u r d (g.val * 128) (by omega) :=
  match g with
  | 0 => tile_0 h w u r d
  | 1 => tile_1 h w u r d
  | 2 => tile_2 h w u r d
  | 3 => tile_3 h w u r d
end

variable (m : (ℓ : Loc nD τ sig) → Buf (Elt Ideal) ℓ)

theorem e0 : ∀ t : Fin cfg0.N, win0_0.index t = ![t.val / 4, 0] :=
  (by decide +kernel : ∀ t : Fin grid0.N, win0_0.index t = ![t.val / 4, 0])
theorem e1 : ∀ t : Fin cfg0.N, win0_1.index t = ![0, 0] :=
  (by decide +kernel : ∀ t : Fin grid0.N, win0_1.index t = ![0, 0])
theorem e2 : ∀ t : Fin cfg0.N, win0_2.index t = ![0, 0, t.val % 4] :=
  (by decide +kernel : ∀ t : Fin grid0.N, win0_2.index t = ![0, 0, t.val % 4])
theorem e3 : ∀ t : Fin cfg0.N, win0_3.index t = ![t.val % 4, 0, 0] :=
  (by decide +kernel : ∀ t : Fin grid0.N, win0_3.index t = ![t.val % 4, 0, 0])
theorem e4 : ∀ t : Fin cfg0.N, win0_4.index t = ![t.val / 4, t.val % 4] :=
  (by decide +kernel : ∀ t : Fin grid0.N, win0_4.index t = ![t.val / 4, t.val % 4])

theorem state_A (c : Dev nD) (t : Fin cfg0.N) (h0 : t.val % 4 = 0) :
    (outsAt0 m c t.val t.isLt).2 = k0_pay2 (iblk m c 0 t) (iblk m c 1 t)
    ∧ (outsAt0 m c t.val t.isLt).1 = tile (outsAt0 m c t.val t.isLt).2 (iblk m c 2 t) (iblk m c 3 t) := by
  rw [outsAt0_A m c t h0]
  constructor
  · frame_out
  · frame_out

theorem state_B (c : Dev nD) (t : Fin cfg0.N) (h0 : ¬ t.val % 4 = 0) :
    (outsAt0 m c t.val t.isLt).2 = (outsAt0 m c (t.val - 1) (Nat.lt_of_le_of_lt (Nat.sub_le _ _) t.isLt)).2
    ∧ (outsAt0 m c t.val t.isLt).1 = tile (outsAt0 m c t.val t.isLt).2 (iblk m c 2 t) (iblk m c 3 t) := by
  rw [outsAt0_B m c t h0]
  constructor
  · rfl
  · frame_out
    rw [read_unread_whole]
    rfl

/-- The argument arrays of the kernel, as functions of their indices. -/
abbrev X0 (c : Dev nD) : S8192x2048.Idx → EReal := m ((c : Thread nD τ).loc main_arg0)
abbrev X1 (c : Dev nD) : S2048.Idx → EReal := m ((c : Thread nD τ).loc main_arg1)
abbrev X2 (c : Dev nD) : S2x2048x2096.Idx → EReal := m ((c : Thread nD τ).loc main_arg2)
abbrev X3 (c : Dev nD) : S128.Idx → EReal := m ((c : Thread nD τ).loc main_arg3)

/-- The row of the arrays that row `r` of point `n`'s blocks is. -/
def row (n : ℕ) (r : Fin 1024) : Fin 8192 := ⟨(1024 * (n / 4) + r.val) % 8192, Nat.mod_lt _ (by decide)⟩

/-- What a point of run place 0 stores as the normalised rows. -/
theorem nrm_eq (c : Dev nD) (t : Fin cfg0.N) (j : S1024x2048.Idx) :
    k0_pay2 (F := Ideal) (iblk m c 0 t) (iblk m c 1 t) j
      = hn (X0 m c) (X1 m c) (row t.val (j 0)) (j 1) := by
  have ht : t.val < 32 := lt_of_lt_of_eq t.isLt N_0
  unfold hn row
  pointwise [k0_pay2, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

theorem w_eq (c : Dev nD) (t : Fin cfg0.N) (k : Fin 2048) (l : Fin 512) :
    iblk m c 2 t (ix3 0 k l) = X2 m c (ix3 0 k ⟨t.val % 4 * 512 + l.val, by omega⟩) := by
  blk_ext! [iblk, V, e2 t]

theorem u_eq (c : Dev nD) (t : Fin cfg0.N) (g : Fin 4) (d : Fin 128) :
    iblk m c 3 t (ix3 0 0 ⟨g.val * 128 + d.val, by omega⟩) = X3 m c (ix1 d) := by
  blk_point [iblk, V, e3 t]

/-- The carried scratch holds the normalised rows of the point's row block after every point. -/
theorem state (c : Dev nD) : ∀ (n : ℕ) (hlt : n < cfg0.N),
    ∀ j : S1024x2048.Idx, (outsAt0 m c n hlt).2 j = hn (X0 m c) (X1 m c) (row n (j 0)) (j 1) := by
  intro n
  induction n with
  | zero =>
    intro hlt j
    obtain ⟨h1, -⟩ := state_A m c ⟨0, hlt⟩ (by rfl)
    dsimp only at h1
    rw [h1, nrm_eq]
  | succ n ih =>
    intro hlt j
    by_cases h0 : (n + 1) % 4 = 0
    · obtain ⟨h1, -⟩ := state_A m c ⟨n + 1, hlt⟩ h0
      dsimp only at h1
      rw [h1, nrm_eq]
    · obtain ⟨h1, -⟩ := state_B m c ⟨n + 1, hlt⟩ h0
      simp only [Nat.add_sub_cancel] at h1
      have hd : (n + 1) / 4 = n / 4 := by omega
      have hr : row (n + 1) (j 0) = row n (j 0) := by unfold row; simp only [hd]
      rw [h1, ih, hr]

/-- Every point's output tile, from its normalised rows, its weight tile and its gains. -/
theorem out_eq (c : Dev nD) (t : Fin cfg0.N) :
    (outsAt0 m c t.val t.isLt).1 = tile (outsAt0 m c t.val t.isLt).2 (iblk m c 2 t) (iblk m c 3 t) := by
  by_cases h0 : t.val % 4 = 0
  · exact (state_A m c t h0).2
  · exact (state_B m c t h0).2

/-- A point's product at a row and an entry of one of its heads is the reference's. -/
theorem prod_eq (c : Dev nD) (t : Fin cfg0.N) (r : Fin 1024) (g : Fin 4) (x : Fin 128) :
    k0_pay3 (F := Ideal) (outsAt0 m c t.val t.isLt).2 (iblk m c 2 t) (ix2 r ⟨g.val * 128 + x.val, by omega⟩)
      = val_main_v17 (F := Ideal) (X0 m c) (X1 m c) (X2 m c) (ix3 (row t.val r) ⟨t.val % 4 * 4 + g.val, by omega⟩ x) := by
  rw [pay3_apply, acc_apply]
  refine Finset.sum_congr rfl fun k _ => congrArg₂ (· * ·) (state m c t.val t.isLt _) ?_
  refine (w_eq m c t k _).trans (congrArg (fun l => X2 m c (ix3 0 k l)) (Fin.ext ?_))
  show t.val % 4 * 512 + (g.val * 128 + x.val) = (t.val % 4 * 4 + g.val) * 128 + x.val
  omega

theorem final (c : Dev nD) : (dats m 0 c).arrAt 4 cfg0.N
    = val_main_v34 (F := Ideal) (X0 m c) (X1 m c) (X2 m c) (X3 m c) := by
  refine (dats m 0 c).arrAt_eq_of_covers 4 _ (by decide +kernel) fun t hf y => ?_
  have ht : t.val < 32 := lt_of_lt_of_eq t.isLt N_0
  blk_simp
  rw [after0_4, out_eq m c t]
  obtain ⟨r, g, d, rfl⟩ : ∃ (r : Fin 1024) (g : Fin 4) (d : Fin 128), y = ix2 r ⟨g.val * 128 + d.val, by omega⟩ := by
    have hy : (y 1).val < 512 := (y 1).isLt
    exact ⟨y 0, ⟨(y 1).val / 128, by omega⟩, ⟨(y 1).val % 128, by omega⟩, by
      funext a
      match a with
      | 0 => rfl
      | 1 => exact Fin.ext (show (y 1).val = (y 1).val / 128 * 128 + (y 1).val % 128 by omega)⟩
  refine (tile_apply _ _ _ r d g).trans ?_
  rw [u_eq]
  simp only [prod_eq]
  refine (ref_apply _ _ _ _ _ _ _).symm.trans (congrArg _ ?_)
  funext a
  match a with
  | 0 =>
    refine Fin.ext ?_
    show (1024 * (t.val / 4) + r.val) % 8192 = _
    blk_simp [e4 t]
    omega
  | 1 =>
    refine Fin.ext ?_
    show (t.val % 4 * 4 + g.val) * 128 + d.val = _
    blk_simp [e4 t]
    exact (show (t.val % 4 * 4 + g.val) * 128 + d.val = t.val % 4 * 512 + (g.val * 128 + d.val) by omega)

/-- The kernel's run and the reference's, from equal arguments, end with equal results. -/
theorem alg : Cert.algebraic_Kernel6Ideal_Reference6Ideal := by
  intro m g m' g' _ hm
  refine ⟨fun c => (dats m 0 c).arrAt 4 cfg0.N, Cert.Kernel6Ideal.Value.run_blocks m g, ?_⟩
  refine (θ_run _ _ _).mono (fun r h c => ⟨?_, (h c).2⟩) (Cert.Reference6Ideal.Value.run m' g')
  obtain ⟨h0, h1, h2, h3⟩ := hm c
  beta_reduce
  rw [final m c, X0, X1, X2, X3, ← h0, ← h1, ← h2, ← h3]
  exact (h c).1.trans (val_main_v34_eq _ _ _ _)

end Cert.NsaQ
-- ==== Proof.MmRes2.lean ====
module

public import proofs.«01_k».proof.Defs
public import proofs.«01_k».proof.Proof.Gen.Kernel7Ideal.Value
public import proofs.«01_k».proof.Proof.Gen.Reference7Ideal.Read
public import Idealize.ShloMosaic.Lib.Pipeline.ValueKit.Point

@[expose] public section

noncomputable section

namespace Cert.MmRes2

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0, (grid0.coords t 1).val] :=
  (by decide +kernel : ∀ t : Fin grid0.N, win0_1.index t = ![0, 0, (grid0.coords t 1).val])
theorem e2 : ∀ t : Fin cfg0.N, win0_2.index t = ![(grid0.coords t 0).val, (grid0.coords t 1).val] :=
  (by decide +kernel : ∀ t : Fin grid0.N, win0_2.index t = ![(grid0.coords t 0).val, (grid0.coords t 1).val])
theorem e3 : ∀ t : Fin cfg0.N, win0_3.index t = ![(grid0.coords t 0).val, (grid0.coords t 1).val] :=
  (by decide +kernel : ∀ t : Fin grid0.N, win0_3.index t = ![(grid0.coords t 0).val, (grid0.coords t 1).val])

/-- The reference's result at an index: the residual plus the row of the left operand times the column of layer 0's weight. -/
theorem ref_apply (a0 : S8192x2048.Idx → EReal) (a1 : S2x2048x2048.Idx → EReal) (a2 : S8192x2048.Idx → EReal) (i : S8192x2048.Idx) :
    Cert.Reference7Ideal.Read.val_main_v4 (F := Ideal) a0 a1 a2 i
      = a2 i + ∑ k : Fin 2048, a0 (ix2 (i 0) k) * a1 (ix3 0 k (i 1)) := by
  pointwise [Cert.Reference7Ideal.Read.val_main_v4, Cert.Reference7Ideal.Read.val_main_v3, Cert.Reference7Ideal.Read.val_main_v0, Cert.Reference7Ideal.Read.val_main_v2, Cert.Reference7Ideal.Read.val_main_v1]

theorem final (c : Dev nD) : (dats m 0 c).arrAt 3 cfg0.N
    = Cert.Reference7Ideal.Read.val_main_v4 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp
  rw [after0_3]; frame_out
  rw [ref_apply]
  pointwise [k0_pay1]
  blk_point [iblk, V, V_main_arg0, V_main_arg2, e0 t, e1 t, e2 t, e3 t]

/-- The kernel's run and the reference's, from equal arguments, end with equal results. -/
theorem alg : Cert.algebraic_Kernel7Ideal_Reference7Ideal := by
  intro m g m' g' _ hm
  refine ⟨fun c => (dats m 0 c).arrAt 3 cfg0.N, Cert.Kernel7Ideal.Value.run_blocks m g, ?_⟩
  refine (θ_run _ _ _).mono (fun r h c => ⟨?_, (h c).2⟩) (Cert.Reference7Ideal.Value.run m' g')
  obtain ⟨h0, h1, h2⟩ := hm c
  beta_reduce
  rw [final m c, ← h0, ← h1, ← h2]
  exact (h c).1.trans (Cert.Reference7Ideal.Read.val_main_v4_eq _ _ _)

end Cert.MmRes2
-- ==== Proof.NsaGate.lean ====
module

public import proofs.«01_k».proof.Defs
public import proofs.«01_k».proof.Proof.Gen.Kernel8Ideal.Value
public import proofs.«01_k».proof.Proof.Gen.Reference8Ideal.Read
public import Idealize.ShloMosaic.Lib.Pipeline.ValueKit.Point

@[expose] public section

noncomputable section

namespace Cert.NsaGate

open Cert.Kernel8Ideal Cert.Kernel8Ideal.Gen Idealize.ShloMosaic Idealize.ShloMosaic.TcCoe Idealize.SL.Sem
open Idealize.ShloMosaic.Pipeline (Dat)
open Cert.Reference8Ideal.Read

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![0, 0] :=
  (by decide +kernel : ∀ t : Fin grid0.N, win0_2.index t = ![0, 0])
theorem e4 : ∀ t : Fin cfg0.N, win0_4.index t = ![t.val, 0] :=
  (by decide +kernel : ∀ t : Fin grid0.N, win0_4.index t = ![t.val, 0])

/-- The argument arrays of the kernel, as functions of their indices. -/
abbrev X0 (c : Dev nD) : S8192x2048.Idx → EReal := m ((c : Thread nD τ).loc main_arg0)
abbrev X1 (c : Dev nD) : S2048.Idx → EReal := m ((c : Thread nD τ).loc main_arg1)
abbrev X2 (c : Dev nD) : S2048x128.Idx → EReal := m ((c : Thread nD τ).loc main_arg2)

/-- What a point stores as the normalised rows. -/
theorem nrm_eq (c : Dev nD) (t : Fin cfg0.N) (r : Fin 512) (k : Fin 2048) :
    k0_pay1 (F := Ideal) (iblk m c 0 t) (iblk m c 1 t) (ix2 r k)
      = val_main_v12 (F := Ideal) (X0 m c) (X1 m c) (ix2 ⟨t.val * 512 + r.val, by have := lt_of_lt_of_eq t.isLt N_0; omega⟩ k) := by
  have ht : t.val < 16 := lt_of_lt_of_eq t.isLt N_0
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

/-- The reference's result at an index. -/
theorem ref_apply (a0 : S8192x2048.Idx → EReal) (a1 : S2048.Idx → EReal) (a2 : S2048x128.Idx → EReal) (i : S8192x128.Idx) :
    val_main_v19 (F := Ideal) a0 a1 a2 i
      = Ideal.div 1 (1 + Ideal.exp (- ∑ k : Fin 2048, val_main_v12 (F := Ideal) a0 a1 (ix2 (i 0) k) * a2 (ix2 k (i 1)))) := by
  pointwise [val_main_v19, val_main_v18, val_main_cst_3, val_main_v17, val_main_v16, val_main_cst_2, val_main_v15, val_main_v14, val_main_v13]

/-- What a point stores: the logistic function of the product. -/
theorem pay2_apply (h : S512x2048.Idx → EReal) (w : S2048x128.Idx → EReal) (i) :
    k0_pay2 (F := Ideal) h w i
      = Ideal.div 1 (1 + Ideal.exp (- ∑ k : Fin 2048, h (ix2 (i 0) k) * w (ix2 k (i 1)))) := by
  pointwise [k0_pay2]
  rw [zero_sub]

theorem out_eq (c : Dev nD) (t : Fin cfg0.N) :
    outsAt0 m c t = k0_pay2 (k0_pay1 (iblk m c 0 t) (iblk m c 1 t)) (iblk m c 2 t) := by
  unfold outsAt0
  frame_out

theorem final (c : Dev nD) : (dats m 0 c).arrAt 4 cfg0.N
    = val_main_v19 (F := Ideal) (X0 m c) (X1 m c) (X2 m c) := by
  refine (dats m 0 c).arrAt_eq_of_covers 4 _ (by decide +kernel) fun t hf y => ?_
  have ht : t.val < 16 := lt_of_lt_of_eq t.isLt N_0
  blk_simp
  rw [after0_4, out_eq]
  rw [ref_apply]
  refine (pay2_apply _ _ y).trans ?_
  refine congrArg (fun s : EReal => Ideal.div 1 (1 + Ideal.exp (- s))) ?_
  refine Finset.sum_congr rfl fun k _ => congrArg₂ (fun a b : EReal => a * b) ?_ ?_
  · refine (nrm_eq m c t (y 0) k).trans ?_
    refine congrArg (fun r => val_main_v12 (F := Ideal) (X0 m c) (X1 m c) (ix2 r k)) (Fin.ext ?_)
    blk_simp [e4 t]
  · blk_point [iblk, V, e2 t, e4 t]

/-- The kernel's run and the reference's, from equal arguments, end with equal results. -/
theorem alg : Cert.algebraic_Kernel8Ideal_Reference8Ideal := by
  intro m g m' g' _ hm
  refine ⟨fun c => (dats m 0 c).arrAt 4 cfg0.N, Cert.Kernel8Ideal.Value.run_blocks m g, ?_⟩
  refine (θ_run _ _ _).mono (fun r h c => ⟨?_, (h c).2⟩) (Cert.Reference8Ideal.Value.run m' g')
  obtain ⟨h0, h1, h2⟩ := hm c
  beta_reduce
  rw [final m c, X0, X1, X2, ← h0, ← h1, ← h2]
  exact (h c).1.trans (val_main_v19_eq _ _ _)

end Cert.NsaGate
-- ==== Proof.MlpS.lean ====
module

public import proofs.«01_k».proof.Defs
public import proofs.«01_k».proof.Proof.Gen.Kernel9Ideal.Value
public import proofs.«01_k».proof.Proof.Gen.Reference9Ideal.Read
public import proofs.«01_k».proof.Proof.Mlp
public import Idealize.ShloMosaic.Lib.Pipeline.ValueKit.Point
public import Idealize.ShloMosaic.Lib.Pipeline.ReadBack

@[expose] public section

noncomputable section

/-! The MLP call on the sample rows: one row block, so a point's number is the number of its block of hidden units. -/
namespace Cert.MlpS

open Cert.Kernel9Ideal Cert.Kernel9Ideal.Gen Idealize.ShloMosaic Idealize.ShloMosaic.TcCoe Idealize.SL.Sem
open Idealize.ShloMosaic.Pipeline (Dat)
open Cert.Reference9Ideal.Read

/-- The sum over the hidden unit's inputs, its ramp squared, times the unit's weight to a column. -/
def unit (a0 : S512x2048.Idx → EReal) (a1 : S2048.Idx → EReal) (a2 : S4x2048x8192.Idx → EReal) (a3 : S4x8192x2048.Idx → EReal)
    (r : Fin 512) (l : Fin 2048) (f : Fin 8192) : EReal :=
  max (∑ k : Fin 2048, val_main_v12 (F := Ideal) a0 a1 (ix2 r k) * a2 (ix3 3 k f)) 0
    * max (∑ k : Fin 2048, val_main_v12 (F := Ideal) a0 a1 (ix2 r k) * a2 (ix3 3 k f)) 0 * a3 (ix3 3 f l)

/-- The reference's result at an index. -/
theorem ref_apply (a0 : S512x2048.Idx → EReal) (a1 : S2048.Idx → EReal) (a2 : S4x2048x8192.Idx → EReal) (a3 : S4x8192x2048.Idx → EReal) (i : S512x2048.Idx) :
    val_main_v21 (F := Ideal) a0 a1 a2 a3 i = a0 i + ∑ f : Fin 8192, unit a0 a1 a2 a3 (i 0) (i 1) f := by
  unfold unit
  pointwise [val_main_v21, val_main_v20, val_main_v19, val_main_v18, val_main_v17, val_main_v16, val_main_call0_v0, val_main_call0_cst, val_main_v15, val_main_v14, val_main_v13]

variable (m : (ℓ : Loc nD τ sig) → Buf (Elt Ideal) ℓ)

/-- The argument arrays of the kernel, as functions of their indices. -/
abbrev X0 (c : Dev nD) : S512x2048.Idx → EReal := m ((c : Thread nD τ).loc main_arg0)
abbrev X1 (c : Dev nD) : S2048.Idx → EReal := m ((c : Thread nD τ).loc main_arg1)
abbrev X2 (c : Dev nD) : S4x2048x8192.Idx → EReal := m ((c : Thread nD τ).loc main_arg2)
abbrev X3 (c : Dev nD) : S4x8192x2048.Idx → EReal := m ((c : Thread nD τ).loc main_arg3)

theorem e0 : ∀ t : Fin cfg0.N, win0_0.index t = ![0, 0] := (by decide +kernel : ∀ t : Fin grid0.N, win0_0.index t = ![0, 0])
theorem e1 : ∀ t : Fin cfg0.N, win0_1.index t = ![0, 0] := (by decide +kernel : ∀ t : Fin grid0.N, win0_1.index t = ![0, 0])
theorem e2 : ∀ t : Fin cfg0.N, win0_2.index t = ![3, 0, t.val] := (by decide +kernel : ∀ t : Fin grid0.N, win0_2.index t = ![3, 0, t.val])
theorem e3 : ∀ t : Fin cfg0.N, win0_3.index t = ![3, t.val, 0] := (by decide +kernel : ∀ t : Fin grid0.N, win0_3.index t = ![3, t.val, 0])
theorem e4 : ∀ t : Fin cfg0.N, win0_4.index t = ![0, 0] := (by decide +kernel : ∀ t : Fin grid0.N, win0_4.index t = ![0, 0])

/-- The normalised rows a point computes are the reference's. -/
theorem nrm_eq (c : Dev nD) (t : Fin cfg0.N) (j : S512x2048.Idx) :
    k0_pay1 (F := Ideal) (iblk m c 0 t) (iblk m c 1 t) j = val_main_v12 (F := Ideal) (X0 m c) (X1 m c) j := by
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

theorem x_eq (c : Dev nD) (t : Fin cfg0.N) (j : S512x2048.Idx) : k0_pay2 (F := Ideal) (iblk m c 0 t) j = X0 m c j := by
  pointwise [k0_pay2]
  blk_ext! [iblk, V, V_main_arg0, e0 t]

/-- The hidden unit that unit `f` of the `s`-th block is. -/
def hid (s : ℕ) (f : Fin 1024) : Fin 8192 := ⟨(s * 1024 + f.val) % 8192, Nat.mod_lt _ (by decide)⟩

/-- What point `t` adds, on top of `acc`, from rows holding the normalised input: one block of hidden units. -/
theorem step (c : Dev nD) (t : Fin cfg0.N) (acc : S512x2048.Idx → EReal) (j : S512x2048.Idx) :
    k0_pay3 (F := Ideal) (val_main_v12 (F := Ideal) (X0 m c) (X1 m c)) (iblk m c 2 t) acc (iblk m c 3 t) j
      = acc j + ∑ f : Fin 1024, unit (X0 m c) (X1 m c) (X2 m c) (X3 m c) (j 0) (j 1) (hid t.val f) := by
  have ht : t.val < 8 := lt_of_lt_of_eq t.isLt N_0
  have w1 : ∀ (k : Fin 2048) (f : Fin 1024), iblk m c 2 t (ix3 0 k f) = X2 m c (ix3 3 k (hid t.val f)) := fun k f => by
    unfold hid
    blk_ext! [iblk, V, e2 t]
  have w2 : ∀ (f : Fin 1024) (l : Fin 2048), iblk m c 3 t (ix3 0 f l) = X3 m c (ix3 3 (hid t.val f) l) := fun f l => by
    unfold hid
    blk_ext! [iblk, V, e3 t]
  refine (Cert.Mlp.pay3_apply _ _ _ _ j).trans ?_
  simp only [w1, unit]
  exact congrArg (acc j + ·) (Finset.sum_congr rfl fun f _ => congrArg _ (w2 f (j 1)))

/-- What a point's two scratches and, at the last point, its result hold, given what it found in the scratches. -/
theorem point_A (c : Dev nD) (t : Fin cfg0.N) (h0 : t.val % 8 = 0) :
    (outsAt0 m c t.val t.isLt).2.1 = k0_pay1 (iblk m c 0 t) (iblk m c 1 t)
    ∧ (outsAt0 m c t.val t.isLt).2.2 = k0_pay3 (outsAt0 m c t.val t.isLt).2.1 (iblk m c 2 t) (k0_pay2 (iblk m c 0 t)) (iblk m c 3 t) := by
  rw [outsAt0_A m c t h0 (by omega)]
  constructor <;> frame_out

theorem point_B (c : Dev nD) (t : Fin cfg0.N) (h0 : ¬ t.val % 8 = 0) (p : S512x2048.Idx → EReal) (q : S512x2048.Idx → EReal)
    (hp : (outsAt0 m c (t.val - 1) (Nat.lt_of_le_of_lt (Nat.sub_le _ _) t.isLt)).2.1 = p)
    (hq : (outsAt0 m c (t.val - 1) (Nat.lt_of_le_of_lt (Nat.sub_le _ _) t.isLt)).2.2 = q) :
    (outsAt0 m c t.val t.isLt).2.1 = p ∧ (outsAt0 m c t.val t.isLt).2.2 = k0_pay3 p (iblk m c 2 t) q (iblk m c 3 t)
    ∧ (t.val % 8 = 7 → (outsAt0 m c t.val t.isLt).1 = (outsAt0 m c t.val t.isLt).2.2) := by
  subst hp hq
  by_cases h1 : t.val % 8 = 7
  · rw [outsAt0_C m c t h0 h1]
    refine ⟨rfl, ?_, fun _ => ?_⟩
    · frame_out
      rw [read_unread_whole, read_unread_whole]
    · frame_out
  · rw [outsAt0_B m c t h0 h1]
    refine ⟨rfl, ?_, fun h => absurd h h1⟩
    frame_out
    rw [read_unread_whole, read_unread_whole]

/-- The accumulator after point `n`: the residual plus the hidden blocks so far. -/
def accAt (c : Dev nD) (n : ℕ) (j : S512x2048.Idx) : EReal :=
  X0 m c j + ∑ s ∈ Finset.range (n + 1), ∑ f : Fin 1024, unit (X0 m c) (X1 m c) (X2 m c) (X3 m c) (j 0) (j 1) (hid s f)

theorem state (c : Dev nD) : ∀ (n : ℕ) (hlt : n < cfg0.N),
    (outsAt0 m c n hlt).2.1 = val_main_v12 (F := Ideal) (X0 m c) (X1 m c) ∧ (outsAt0 m c n hlt).2.2 = accAt m c n := by
  intro n
  induction n with
  | zero =>
    intro hlt
    obtain ⟨h1, h2⟩ := point_A m c ⟨0, hlt⟩ rfl
    have h1' := h1.trans (funext fun j => nrm_eq m c ⟨0, hlt⟩ j)
    refine ⟨h1', funext fun j => ?_⟩
    rw [h2, h1', step m c ⟨0, hlt⟩ _ j, x_eq]
    simp only [accAt, zero_add, Finset.sum_range_one]
  | succ n ih =>
    intro hlt
    have hN : n + 1 < 8 := lt_of_lt_of_eq hlt N_0
    obtain ⟨i1, i2⟩ := ih (Nat.lt_of_succ_lt hlt)
    obtain ⟨h1, h2, -⟩ := point_B m c ⟨n + 1, hlt⟩ (show ¬ (n + 1) % 8 = 0 by omega) _ _ i1 i2
    refine ⟨h1, funext fun j => ?_⟩
    rw [h2, step m c ⟨n + 1, hlt⟩ _ j]
    simp only [accAt]
    rw [Finset.sum_range_succ _ (n + 1), ← add_assoc]

theorem final (c : Dev nD) : (dats m 0 c).arrAt 4 cfg0.N
    = val_main_v21 (F := Ideal) (X0 m c) (X1 m c) (X2 m c) (X3 m c) := by
  refine (dats m 0 c).arrAt_eq_of_covers 4 _ (by decide +kernel) fun t hf y => ?_
  have h7 := (flush0_4 t).mp hf
  have ht : t.val < 8 := lt_of_lt_of_eq t.isLt N_0
  have h0 : ¬ t.val % 8 = 0 := by omega
  blk_simp
  obtain ⟨-, -, ho⟩ := point_B m c t h0 _ _ rfl rfl
  rw [after0_4, ho h7, (state m c t.val t.isLt).2]
  have hy : (win0_4.blk t).view.emb y = y := by
    funext a
    match a with
    | 0 =>
      refine Fin.ext ?_
      blk_simp [e4 t]
    | 1 =>
      refine Fin.ext ?_
      blk_simp [e4 t]
  rw [hy, ref_apply, ← Fin.sum_mul_add_fin 8 1024, accAt, show t.val + 1 = 8 by omega]
  refine congrArg (X0 m c y + ·) ((Finset.sum_range _).trans ?_)
  exact Finset.sum_congr rfl fun s _ => Finset.sum_congr rfl fun f _ =>
    congrArg (unit _ _ _ _ _ _) (Fin.ext (Nat.mod_eq_of_lt (by omega)))

/-- The kernel's run and the reference's, from equal arguments, end with equal results. -/
theorem alg : Cert.algebraic_Kernel9Ideal_Reference9Ideal := by
  intro m g m' g' _ hm
  refine ⟨fun c => (dats m 0 c).arrAt 4 cfg0.N, Cert.Kernel9Ideal.Value.run_blocks m g, ?_⟩
  refine (θ_run _ _ _).mono (fun r h c => ⟨?_, (h c).2⟩) (Cert.Reference9Ideal.Value.run m' g')
  obtain ⟨h0, h1, h2, h3⟩ := hm c
  beta_reduce
  rw [final m c, X0, X1, X2, X3, ← h0, ← h1, ← h2, ← h3]
  exact (h c).1.trans (val_main_v21_eq _ _ _ _)

end Cert.MlpS
-- ==== Proof.KvS.lean ====
module

public import proofs.«01_k».proof.Defs
public import proofs.«01_k».proof.Proof.Gen.Kernel10Ideal.Value
public import proofs.«01_k».proof.Proof.Gen.Reference10Ideal.Read
public import proofs.«01_k».proof.Proof.HeadNorm
public import Idealize.ShloMosaic.Lib.Pipeline.ValueKit.Point
public import Idealize.ShloMosaic.Lib.Pipeline.ReadBack
public import Idealize.ShloMosaic.Lib.StableHlo.RunRead

@[expose] public section

noncomputable section

/-! The keys and values of the sample rows: one row block, so a point's number is the number of its section of columns. -/
namespace Cert.KvS

open Cert.Kernel10Ideal Cert.Kernel10Ideal.Gen Idealize.ShloMosaic Idealize.ShloMosaic.TcCoe Idealize.SL.Sem
open Idealize.ShloMosaic.Pipeline (Dat)
open Cert.Reference10Ideal.Read Cert.HeadNorm

variable (m : (ℓ : Loc nD τ sig) → Buf (Elt Ideal) ℓ)

/-- The argument arrays of the kernel, as functions of their indices. -/
abbrev X0 (c : Dev nD) : S512x2048.Idx → EReal := m ((c : Thread nD τ).loc main_arg0)
abbrev X1 (c : Dev nD) : S2048.Idx → EReal := m ((c : Thread nD τ).loc main_arg1)
abbrev X2 (c : Dev nD) : S2048x3072.Idx → EReal := m ((c : Thread nD τ).loc main_arg2)
abbrev X3 (c : Dev nD) : S128.Idx → EReal := m ((c : Thread nD τ).loc main_arg3)
abbrev X4 (c : Dev nD) : S128.Idx → EReal := m ((c : Thread nD τ).loc main_arg4)

theorem e0 : ∀ t : Fin cfg0.N, win0_0.index t = ![0, 0] := (by decide +kernel : ∀ t : Fin grid0.N, win0_0.index t = ![0, 0])
theorem e1 : ∀ t : Fin cfg0.N, win0_1.index t = ![0, 0] := (by decide +kernel : ∀ t : Fin grid0.N, win0_1.index t = ![0, 0])
theorem e2 : ∀ t : Fin cfg0.N, win0_2.index t = ![0, t.val] := (by decide +kernel : ∀ t : Fin grid0.N, win0_2.index t = ![0, t.val])
theorem e3 : ∀ t : Fin cfg0.N, win0_3.index t = ![t.val, 0, 0] := (by decide +kernel : ∀ t : Fin grid0.N, win0_3.index t = ![t.val, 0, 0])
theorem e4 : ∀ t : Fin cfg0.N, win0_4.index t = ![t.val / 2, 0, t.val % 2] :=
  (by decide +kernel : ∀ t : Fin grid0.N, win0_4.index t = ![t.val / 2, 0, t.val % 2])

section
variable (a0 : S512x2048.Idx → EReal) (a1 : S2048.Idx → EReal) (a2 : S2048x3072.Idx → EReal) (a3 a4 : S128.Idx → EReal)
  (r : Fin 512) (g : Fin 4) (d : Fin 128)

/-- The six sections of the reference's row `r`. -/
abbrev rowPart (s : Fin 6) : EReal :=
  part (fun s g x => val_main_v14 (F := Ideal) a0 a1 a2 (ix4 r s g x)) (fun d => a3 (ix1 d)) (fun d => a4 (ix1 d)) g d s

theorem sel_apply : val_main_v31 (F := Ideal) a0 a1 a2 a3 (ix3 r g d) = rowPart a0 a1 a2 a3 a4 r g d 2 := by
  unfold rowPart part nrm
  pointwise [val_main_v31, val_main_v30, val_main_v29, val_main_v28, val_main_v27, val_main_v26, val_main_v25, val_main_v24, val_main_cst_4, val_main_v23, val_main_v22, val_main_cst_3, val_main_v21, val_main_v20, val_main_cst_2, val_main_v19, val_main_v16, val_main_v15]

theorem win_apply : val_main_v44 (F := Ideal) a0 a1 a2 a4 (ix3 r g d) = rowPart a0 a1 a2 a3 a4 r g d 4 := by
  unfold rowPart part nrm
  pointwise [val_main_v44, val_main_v43, val_main_v42, val_main_v41, val_main_v40, val_main_v39, val_main_v38, val_main_v37, val_main_cst_7, val_main_v36, val_main_v35, val_main_cst_6, val_main_v34, val_main_v33, val_main_cst_5, val_main_v32, val_main_v18, val_main_v17]

/-- The stack of the three branches' rows at a section: its branch is the section's half, keys before values. -/
theorem stack_apply : ∀ s : Fin 6,
    val_main_v59 (F := Ideal) a0 a1 a2 a3 a4 (ix5 ⟨s.val / 2, by omega⟩ r ⟨s.val % 2, by omega⟩ g d) = rowPart a0 a1 a2 a3 a4 r g d s
  | 0 => show val_main_v59 (F := Ideal) a0 a1 a2 a3 a4 (ix5 0 r 0 g d) = val_main_v14 (F := Ideal) a0 a1 a2 (ix4 r 0 g d) by
    pointwise [val_main_v59, val_main_v56, val_main_v45]
  | 1 => show val_main_v59 (F := Ideal) a0 a1 a2 a3 a4 (ix5 0 r 1 g d) = val_main_v14 (F := Ideal) a0 a1 a2 (ix4 r 1 g d) by
    pointwise [val_main_v59, val_main_v56, val_main_v45]
  | 2 => (show val_main_v59 (F := Ideal) a0 a1 a2 a3 a4 (ix5 1 r 0 g d) = val_main_v31 (F := Ideal) a0 a1 a2 a3 (ix3 r g d) by
    pointwise [val_main_v59, val_main_v57, val_main_v50, val_main_v48]).trans (sel_apply a0 a1 a2 a3 a4 r g d)
  | 3 => show val_main_v59 (F := Ideal) a0 a1 a2 a3 a4 (ix5 1 r 1 g d) = val_main_v14 (F := Ideal) a0 a1 a2 (ix4 r 3 g d) by
    pointwise [val_main_v59, val_main_v57, val_main_v50, val_main_v49, val_main_v47, val_main_v46]
  | 4 => (show val_main_v59 (F := Ideal) a0 a1 a2 a3 a4 (ix5 2 r 0 g d) = val_main_v44 (F := Ideal) a0 a1 a2 a4 (ix3 r g d) by
    pointwise [val_main_v59, val_main_v58, val_main_v55, val_main_v53]).trans (win_apply a0 a1 a2 a3 a4 r g d)
  | 5 => show val_main_v59 (F := Ideal) a0 a1 a2 a3 a4 (ix5 2 r 1 g d) = val_main_v14 (F := Ideal) a0 a1 a2 (ix4 r 5 g d) by
    pointwise [val_main_v59, val_main_v58, val_main_v55, val_main_v54, val_main_v52, val_main_v51]

/-- The reference's result at an index of section `s`. -/
theorem ref_apply (s : Fin 6) :
    val_main_v60 (F := Ideal) a0 a1 a2 a3 a4 (ix3 ⟨s.val / 2, by omega⟩ r ⟨s.val % 2 * 512 + (g.val * 128 + d.val), by omega⟩)
      = rowPart a0 a1 a2 a3 a4 r g d s := by
  refine Eq.trans ?_ (stack_apply a0 a1 a2 a3 a4 r g d s)
  have h : ∀ (b : Fin 3) (v : Fin 2), val_main_v60 (F := Ideal) a0 a1 a2 a3 a4 (ix3 b r ⟨v.val * 512 + (g.val * 128 + d.val), by omega⟩)
      = val_main_v59 (F := Ideal) a0 a1 a2 a3 a4 (ix5 b r v g d) := fun b v => by
    pointwise [val_main_v60]
  exact h ⟨s.val / 2, by omega⟩ ⟨s.val % 2, by omega⟩
end

/-- A point's product is the reference's in its section, from rows that hold the reference's normalised input. -/
theorem prod_eq (c : Dev nD) (t : Fin cfg0.N) (s : Fin 6) (hs : t.val = s.val) (r : Fin 512) (g : Fin 4) (x : Fin 128) :
    k0_pay2 (F := Ideal) (val_main_v12 (F := Ideal) (X0 m c) (X1 m c)) (iblk m c 2 t) (ix2 r ⟨g.val * 128 + x.val, by omega⟩)
      = val_main_v14 (F := Ideal) (X0 m c) (X1 m c) (X2 m c) (ix4 r s g x) := by
  pointwise [k0_pay2, val_main_v14, val_main_v13]
  refine Finset.sum_congr rfl fun k _ => congrArg (val_main_v12 (F := Ideal) (X0 m c) (X1 m c) (ix2 r k) * ·) ?_
  blk_point [iblk, V, e2 t]

set_option maxRecDepth 4000 in
/-- The gains the host lays out for the two key sections, at a head's entry. -/
theorem gains (c : Dev nD) (g : Fin 4) (d : Fin 128) :
    V m c main_v11 (ix3 2 0 ⟨g.val * 128 + d.val, by omega⟩) = X3 m c (ix1 d)
    ∧ V m c main_v11 (ix3 4 0 ⟨g.val * 128 + d.val, by omega⟩) = X4 m c (ix1 d) := by
  have e : (g.val * 128 + d.val) % 128 = d.val := by omega
  constructor <;>
  · after_reads_simp
    pointwise
    after_reads_simp
    pointwise
    simp only [e]

/-- What a point of a key section stores, from its product and its gains. -/
abbrev tile (P : S512x512.Idx → EReal) (u : S1x1x512.Idx → EReal) : S1x512x512.Idx → EReal :=
  k0_pay3 (F := Ideal) (k0_pay5 u) (k0_pay6 P) (k0_pay7 P) (k0_pay8 P) (k0_pay9 P) (k0_pay10 P)

/-- It is the product's head normed and multiplied by the gains. -/
theorem tile_apply (P : S512x512.Idx → EReal) (u : S1x1x512.Idx → EReal) (r : Fin 512) (d : Fin 128) : ∀ g : Fin 4,
    tile P u (ix3 0 r ⟨g.val * 128 + d.val, by omega⟩)
      = nrm (fun x => P (ix2 r ⟨g.val * 128 + x.val, by omega⟩)) d * u (ix3 0 0 ⟨g.val * 128 + d.val, by omega⟩)
  | 0 => by
    show tile P u (ix3 0 r ⟨0 * 128 + d.val, by omega⟩)
      = nrm (fun x => P (ix2 r ⟨0 * 128 + x.val, by omega⟩)) d * u (ix3 0 0 ⟨0 * 128 + d.val, by omega⟩)
    unfold nrm
    simp only [Nat.zero_mul, Nat.zero_add]
    pointwise [k0_pay3, k0_pay5, k0_pay6, k0_pay7, k0_pay8, k0_pay9, k0_pay10]
  | 1 => by
    show tile P u (ix3 0 r ⟨128 + d.val, by omega⟩)
      = nrm (fun x => P (ix2 r ⟨128 + x.val, by omega⟩)) d * u (ix3 0 0 ⟨128 + d.val, by omega⟩)
    unfold nrm
    pointwise [k0_pay3, k0_pay5, k0_pay6, k0_pay7, k0_pay8, k0_pay9, k0_pay10]
  | 2 => by
    show tile P u (ix3 0 r ⟨256 + d.val, by omega⟩)
      = nrm (fun x => P (ix2 r ⟨256 + x.val, by omega⟩)) d * u (ix3 0 0 ⟨256 + d.val, by omega⟩)
    unfold nrm
    pointwise [k0_pay3, k0_pay5, k0_pay6, k0_pay7, k0_pay8, k0_pay9, k0_pay10]
    have e : 256 + d.val - 128 - 128 = d.val := by omega
    simp only [dif_neg (show ¬ 256 + d.val < 128 by omega), dif_neg (show ¬ 256 + d.val - 128 < 128 by omega),
      dif_pos (show 256 + d.val - 128 - 128 < 128 by omega), e, Fin.eta, dif_pos d.isLt]
  | 3 => by
    show tile P u (ix3 0 r ⟨384 + d.val, by omega⟩)
      = nrm (fun x => P (ix2 r ⟨384 + x.val, by omega⟩)) d * u (ix3 0 0 ⟨384 + d.val, by omega⟩)
    unfold nrm
    pointwise [k0_pay3, k0_pay5, k0_pay6, k0_pay7, k0_pay8, k0_pay9, k0_pay10]
    have e : 384 + d.val - 128 - 128 - 128 = d.val := by omega
    simp only [dif_neg (show ¬ 384 + d.val < 128 by omega), dif_neg (show ¬ 384 + d.val - 128 < 128 by omega),
      dif_neg (show ¬ 384 + d.val - 128 - 128 < 128 by omega), e, Fin.eta]

/-- What point `t` stores from normalised rows `h`: its product, normed in the key sections. -/
def stored (c : Dev nD) (t : Fin cfg0.N) (h : S512x2048.Idx → EReal) : S1x512x512.Idx → EReal :=
  if t.val % 6 = 2 ∨ t.val % 6 = 4 then tile (k0_pay2 (F := Ideal) h (iblk m c 2 t)) (iblk m c 3 t) else k0_pay4 (F := Ideal) h (iblk m c 2 t)

theorem first (c : Dev nD) (t : Fin cfg0.N) (h0 : t.val % 6 = 0) :
    (outsAt0 m c t.val t.isLt).2 = k0_pay1 (iblk m c 0 t) (iblk m c 1 t)
    ∧ (outsAt0 m c t.val t.isLt).1 = stored m c t (outsAt0 m c t.val t.isLt).2 := by
  rw [stored, if_neg (by omega), outsAt0_A m c t h0 (by omega) (by omega)]
  constructor <;> frame_out

theorem later (c : Dev nD) (t : Fin cfg0.N) (h0 : ¬ t.val % 6 = 0) :
    (outsAt0 m c t.val t.isLt).2 = (outsAt0 m c (t.val - 1) (Nat.lt_of_le_of_lt (Nat.sub_le _ _) t.isLt)).2
    ∧ (outsAt0 m c t.val t.isLt).1 = stored m c t (outsAt0 m c t.val t.isLt).2 := by
  by_cases h1 : t.val % 6 = 2 ∨ t.val % 6 = 4
  · rw [stored, if_pos h1, outsAt0_C m c t h0 h1 (not_not_intro h1)]
    refine ⟨rfl, ?_⟩
    frame_out
    rw [read_unread_whole]
    rfl
  · rw [stored, if_neg h1, outsAt0_B m c t h0 h1 h1]
    refine ⟨rfl, ?_⟩
    frame_out
    rw [read_unread_whole]
    rfl

/-- The normalised input a point with no carry makes is the reference's. -/
theorem rows_eq (c : Dev nD) (t : Fin cfg0.N) :
    k0_pay1 (iblk m c 0 t) (iblk m c 1 t) = val_main_v12 (F := Ideal) (X0 m c) (X1 m c) := by
  funext j
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

/-- After every point the carried scratch holds the reference's normalised input, and the point has stored from it. -/
theorem state (c : Dev nD) : ∀ (n : ℕ) (hlt : n < cfg0.N),
    (outsAt0 m c n hlt).2 = val_main_v12 (F := Ideal) (X0 m c) (X1 m c)
    ∧ (outsAt0 m c n hlt).1 = stored m c ⟨n, hlt⟩ (val_main_v12 (F := Ideal) (X0 m c) (X1 m c)) := by
  intro n
  induction n with
  | zero =>
    intro hlt
    obtain ⟨h1, h2⟩ := first m c ⟨0, hlt⟩ rfl
    have h1' := h1.trans (rows_eq m c ⟨0, hlt⟩)
    exact ⟨h1', h2.trans (congrArg _ h1')⟩
  | succ n ih =>
    intro hlt
    have hN : n + 1 < 6 := lt_of_lt_of_eq hlt N_0
    obtain ⟨h1, h2⟩ := later m c ⟨n + 1, hlt⟩ (show ¬ (n + 1) % 6 = 0 by omega)
    have h1' := h1.trans (ih (Nat.lt_of_succ_lt hlt)).1
    exact ⟨h1', h2.trans (congrArg _ h1')⟩

/-- What a point of an unnormed section stores. -/
theorem plain (c : Dev nD) (t : Fin cfg0.N) (r : Fin 512) (g : Fin 4) (d : Fin 128) (s : Fin 6) (hs : t.val = s.val)
    (h : ¬ (s.val % 6 = 2 ∨ s.val % 6 = 4)) :
    stored m c t (val_main_v12 (F := Ideal) (X0 m c) (X1 m c)) (ix3 0 r ⟨g.val * 128 + d.val, by omega⟩)
      = val_main_v14 (F := Ideal) (X0 m c) (X1 m c) (X2 m c) (ix4 r s g d) := by
  rw [stored, if_neg (hs ▸ h), ← prod_eq m c t s hs]
  pointwise [k0_pay4]

/-- What a point of a key section stores. -/
theorem normed (c : Dev nD) (t : Fin cfg0.N) (r : Fin 512) (g : Fin 4) (d : Fin 128) (s : Fin 6) (hs : t.val = s.val)
    (h : s.val % 6 = 2 ∨ s.val % 6 = 4) :
    stored m c t (val_main_v12 (F := Ideal) (X0 m c) (X1 m c)) (ix3 0 r ⟨g.val * 128 + d.val, by omega⟩)
      = nrm (fun x => val_main_v14 (F := Ideal) (X0 m c) (X1 m c) (X2 m c) (ix4 r s g x)) d
        * V m c main_v11 (ix3 s 0 ⟨g.val * 128 + d.val, by omega⟩) := by
  rw [stored, if_pos (hs ▸ h)]
  refine (tile_apply _ _ r d g).trans (congrArg₂ (fun a b : EReal => a * b) ?_ ?_)
  · exact congrArg (fun f => nrm f d) (funext fun x => prod_eq m c t s hs r g x)
  · have e3' := e3 t
    rw [hs] at e3'
    blk_ext [iblk, e3']

/-- What a point stores is the reference's result in its section. -/
theorem stored_apply (c : Dev nD) (t : Fin cfg0.N) (r : Fin 512) (g : Fin 4) (d : Fin 128) : ∀ (s : Fin 6) (_ : t.val = s.val),
    stored m c t (val_main_v12 (F := Ideal) (X0 m c) (X1 m c)) (ix3 0 r ⟨g.val * 128 + d.val, by omega⟩)
      = rowPart (X0 m c) (X1 m c) (X2 m c) (X3 m c) (X4 m c) r g d s
  | 0, hs => plain m c t r g d 0 hs (by decide)
  | 1, hs => plain m c t r g d 1 hs (by decide)
  | 2, hs => (normed m c t r g d 2 hs (by decide)).trans (congrArg _ (gains m c g d).1)
  | 3, hs => plain m c t r g d 3 hs (by decide)
  | 4, hs => (normed m c t r g d 4 hs (by decide)).trans (congrArg _ (gains m c g d).2)
  | 5, hs => plain m c t r g d 5 hs (by decide)

theorem final (c : Dev nD) : (dats m 0 c).arrAt 4 cfg0.N
    = val_main_v60 (F := Ideal) (X0 m c) (X1 m c) (X2 m c) (X3 m c) (X4 m c) := by
  refine (dats m 0 c).arrAt_eq_of_covers 4 _ (by decide +kernel) fun t hf y => ?_
  have ht : t.val < 6 := lt_of_lt_of_eq t.isLt N_0
  blk_simp
  rw [after0_4, (state m c t.val t.isLt).2]
  obtain ⟨r, g, d, rfl⟩ : ∃ (r : Fin 512) (g : Fin 4) (d : Fin 128), y = ix3 0 r ⟨g.val * 128 + d.val, by omega⟩ := by
    obtain ⟨g, d, h⟩ := exists_head (y 2)
    refine ⟨y 1, g, d, ?_⟩
    rw [← h]
    funext a
    match a with
    | 0 => exact Fin.ext (show (y 0).val = 0 by have h0 : (y 0).val < 1 := (y 0).isLt; omega)
    | 1 => rfl
    | 2 => rfl
  refine (stored_apply m c t r g d ⟨t.val, ht⟩ rfl).trans ?_
  refine (ref_apply _ _ _ _ _ _ _ _ _).symm.trans (congrArg _ (funext fun a => ?_))
  match a with
  | 0 =>
    refine Fin.ext ?_
    blk_simp [e4 t]
    rfl
  | 1 =>
    refine Fin.ext ?_
    blk_simp [e4 t]
  | 2 =>
    refine Fin.ext ?_
    blk_simp [e4 t]

/-- The kernel's run and the reference's, from equal arguments, end with equal results. -/
theorem alg : Cert.algebraic_Kernel10Ideal_Reference10Ideal := by
  intro m g m' g' _ hm
  refine ⟨fun c => (dats m 0 c).arrAt 4 cfg0.N, Cert.Kernel10Ideal.Value.run_blocks m g, ?_⟩
  refine (θ_run _ _ _).mono (fun r h c => ⟨?_, (h c).2⟩) (Cert.Reference10Ideal.Value.run m' g')
  obtain ⟨h0, h1, h2, h3, h4⟩ := hm c
  beta_reduce
  rw [final m c, X0, X1, X2, X3, X4, ← h0, ← h1, ← h2, ← h3, ← h4]
  exact (h c).1.trans (val_main_v60_eq _ _)

end Cert.KvS
-- ==== Proof.NmmL.lean ====
module

public import proofs.«01_k».proof.Defs
public import proofs.«01_k».proof.Proof.Gen.Kernel11Ideal.Value
public import proofs.«01_k».proof.Proof.Gen.Reference11Ideal.Read
public import proofs.«01_k».proof.Proof.Nmm
public import Idealize.ShloMosaic.Lib.Pipeline.ValueKit.Point
public import Idealize.ShloMosaic.Lib.Pipeline.ReadBack

@[expose] public section

noncomputable section

/-! The in-projection of the second gated-DeltaNet layer on the prompt rows. -/
namespace Cert.NmmL

open Cert.Kernel11Ideal Cert.Kernel11Ideal.Gen Idealize.ShloMosaic Idealize.ShloMosaic.TcCoe Idealize.SL.Sem
open Idealize.ShloMosaic.Pipeline (Dat)
open Cert.Reference11Ideal.Read
open Cert.Nmm (hn row)

variable (m : (ℓ : Loc nD τ sig) → Buf (Elt Ideal) ℓ)

theorem e0 : ∀ t : Fin cfg0.N, win0_0.index t = ![t.val / 12, 0] :=
  (by decide +kernel : ∀ t : Fin grid0.N, win0_0.index t = ![t.val / 12, 0])
theorem e1 : ∀ t : Fin cfg0.N, win0_1.index t = ![0, 0] :=
  (by decide +kernel : ∀ t : Fin grid0.N, win0_1.index t = ![0, 0])
theorem e2 : ∀ t : Fin cfg0.N, win0_2.index t = ![1, 0, t.val % 12] :=
  (by decide +kernel : ∀ t : Fin grid0.N, win0_2.index t = ![1, 0, t.val % 12])
theorem e4 : ∀ t : Fin cfg0.N, win0_4.index t = ![t.val / 12, t.val % 12] :=
  (by decide +kernel : ∀ t : Fin grid0.N, win0_4.index t = ![t.val / 12, t.val % 12])

/-- The reference's result at an index. -/
theorem ref_apply (a0 : S8192x2048.Idx → EReal) (a1 : S2048.Idx → EReal) (a2 : S2x2048x12352.Idx → EReal) (i : S8192x12288.Idx) :
    val_main_v16 (F := Ideal) a0 a1 a2 i
      = ∑ k : Fin 2048, hn a0 a1 (i 0) k * a2 (ix3 1 k ⟨(i 1).val, Nat.lt_trans (i 1).isLt (by decide)⟩) := by
  show _ = ∑ k : Fin 2048, val_main_v12 (F := Ideal) a0 a1 (ix2 (i 0) k) * _
  pointwise [val_main_v16, val_main_v15, val_main_v14, val_main_v13]

/-- The argument arrays of the kernel, as functions of their indices. -/
abbrev X0 (c : Dev nD) : S8192x2048.Idx → EReal := m ((c : Thread nD τ).loc main_arg0)
abbrev X1 (c : Dev nD) : S2048.Idx → EReal := m ((c : Thread nD τ).loc main_arg1)
abbrev X2 (c : Dev nD) : S2x2048x12352.Idx → EReal := m ((c : Thread nD τ).loc main_arg2)

/-- What a point of run place 0 stores as the normalised rows. -/
theorem nrm_eq (c : Dev nD) (t : Fin cfg0.N) (j : S1024x2048.Idx) :
    k0_pay1 (F := Ideal) (iblk m c 0 t) (iblk m c 1 t) j
      = hn (X0 m c) (X1 m c) (row t.val j) (j 1) := by
  have hN : cfg0.N = 96 := N_0
  have ht : t.val < 96 := lt_of_lt_of_eq t.isLt N_0
  show _ = val_main_v12 (F := Ideal) (X0 m c) (X1 m c) (ix2 (row t.val j) (j 1))
  unfold row
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

theorem w_eq (c : Dev nD) (t : Fin cfg0.N) (k : Fin 2048) (l : Fin 1024) :
    iblk m c 2 t (ix3 0 k l) = X2 m c (ix3 1 k ⟨t.val % 12 * 1024 + l.val, by omega⟩) := by
  blk_ext! [iblk, V, e2 t]

/-- The carried scratch holds the normalised rows of the point's row block after every point. -/
theorem carried (c : Dev nD) : ∀ n hlt, (outsAt0 m c n hlt).2 = fun j => hn (X0 m c) (X1 m c) (row n j) (j 1) :=
  Cert.Carry.holds 12 (fun n h => (outsAt0 m c n h).2) (fun n j => hn (X0 m c) (X1 m c) (row n j) (j 1))
    (fun n h h0 => by
      refine Eq.trans ?_ (funext fun j => nrm_eq m c ⟨n, h⟩ j)
      beta_reduce
      rw [outsAt0_A m c ⟨n, h⟩ h0]
      frame_out)
    (fun n h h0 => by
      beta_reduce
      rw [outsAt0_B m c ⟨n + 1, h⟩ h0]
      rfl)
    (fun n h0 => funext fun j => by simp only [row, show (n + 1) / 12 = n / 12 by omega])

/-- Every point's output tile is the product of its normalised rows and its weight tile. -/
theorem out_eq (c : Dev nD) (t : Fin cfg0.N) :
    (outsAt0 m c t.val t.isLt).1 = k0_pay2 (outsAt0 m c t.val t.isLt).2 (iblk m c 2 t) := by
  by_cases h0 : t.val % 12 = 0
  · rw [outsAt0_A m c t h0]
    frame_out
  · rw [outsAt0_B m c t h0]
    frame_out
    rw [read_unread_whole]
    rfl

theorem final (c : Dev nD) : (dats m 0 c).arrAt 4 cfg0.N
    = val_main_v16 (F := Ideal) (X0 m c) (X1 m c) (X2 m c) := by
  refine (dats m 0 c).arrAt_eq_of_covers 4 _ (by decide +kernel) fun t hf y => ?_
  have hN : cfg0.N = 96 := N_0
  have ht : t.val < 96 := lt_of_lt_of_eq t.isLt N_0
  blk_simp
  rw [after0_4, out_eq m c t, carried m c]
  refine (Cert.Nmm.pay2_apply _ _ y).trans ?_
  rw [ref_apply]
  refine Finset.sum_congr rfl fun k _ => congrArg₂ (· * ·) ?_ ?_
  · refine congrArg₂ (hn (X0 m c) (X1 m c)) ?_ rfl
    refine Fin.ext ?_
    show (1024 * (t.val / 12) + (y 0).val) % 8192 = _
    have hy : (y 0).val < 1024 := (y 0).isLt
    blk_simp [e4 t]
    omega
  · refine (w_eq m c t k (y 1)).trans (congrArg (fun l => X2 m c (ix3 1 k l)) ?_)
    refine Fin.ext ?_
    blk_simp [e4 t]

/-- The kernel's run and the reference's, from equal arguments, end with equal results. -/
theorem alg : Cert.algebraic_Kernel11Ideal_Reference11Ideal := by
  intro m g m' g' _ hm
  refine ⟨fun c => (dats m 0 c).arrAt 4 cfg0.N, Cert.Kernel11Ideal.Value.run_blocks m g, ?_⟩
  refine (θ_run _ _ _).mono (fun r h c => ⟨?_, (h c).2⟩) (Cert.Reference11Ideal.Value.run m' g')
  obtain ⟨h0, h1, h2⟩ := hm c
  beta_reduce
  rw [final m c, X0, X1, X2, ← h0, ← h1, ← h2]
  exact (h c).1.trans (val_main_v16_eq _ _ _)

end Cert.NmmL
-- ==== Proof.NmmS.lean ====
module

public import proofs.«01_k».proof.Defs
public import proofs.«01_k».proof.Proof.Gen.Kernel12Ideal.Value
public import proofs.«01_k».proof.Proof.Gen.Reference12Ideal.Read
public import proofs.«01_k».proof.Proof.Carry
public import Idealize.ShloMosaic.Lib.Pipeline.ValueKit.Point
public import Idealize.ShloMosaic.Lib.Pipeline.ReadBack

@[expose] public section

noncomputable section

/-! The in-projection of the first gated-DeltaNet layer on the sample rows: one row block, so a point's number is the number
    of its block of columns. -/
namespace Cert.NmmS

open Cert.Kernel12Ideal Cert.Kernel12Ideal.Gen Idealize.ShloMosaic Idealize.ShloMosaic.TcCoe Idealize.SL.Sem
open Idealize.ShloMosaic.Pipeline (Dat)
open Cert.Reference12Ideal.Read

/-- A point's tile at an index: the row's product with the weight tile's column. -/
theorem tile_apply (h : S512x2048.Idx → EReal) (w : S1x2048x1024.Idx → EReal) (j) :
    k0_pay2 (F := Ideal) h w j = ∑ k : Fin 2048, h (ix2 (j 0) k) * w (ix3 0 k (j 1)) := by
  pointwise [k0_pay2]

variable (m : (ℓ : Loc nD τ sig) → Buf (Elt Ideal) ℓ)

/-- The argument arrays of the kernel, as functions of their indices. -/
abbrev X0 (c : Dev nD) : S512x2048.Idx → EReal := m ((c : Thread nD τ).loc main_arg0)
abbrev X1 (c : Dev nD) : S2048.Idx → EReal := m ((c : Thread nD τ).loc main_arg1)
abbrev X2 (c : Dev nD) : S2x2048x12352.Idx → EReal := m ((c : Thread nD τ).loc main_arg2)

theorem e0 : ∀ t : Fin cfg0.N, win0_0.index t = ![0, 0] := (by decide +kernel : ∀ t : Fin grid0.N, win0_0.index t = ![0, 0])
theorem e1 : ∀ t : Fin cfg0.N, win0_1.index t = ![0, 0] := (by decide +kernel : ∀ t : Fin grid0.N, win0_1.index t = ![0, 0])
theorem e2 : ∀ t : Fin cfg0.N, win0_2.index t = ![0, 0, t.val] := (by decide +kernel : ∀ t : Fin grid0.N, win0_2.index t = ![0, 0, t.val])
theorem e4 : ∀ t : Fin cfg0.N, win0_4.index t = ![0, t.val] := (by decide +kernel : ∀ t : Fin grid0.N, win0_4.index t = ![0, t.val])

/-- The normalised rows that the first point computes are the reference's. -/
theorem rows_eq (c : Dev nD) (t : Fin cfg0.N) :
    k0_pay1 (F := Ideal) (iblk m c 0 t) (iblk m c 1 t) = val_main_v12 (F := Ideal) (X0 m c) (X1 m c) := by
  funext j
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

/-- The carried scratch holds them after every point. -/
theorem carried (c : Dev nD) : ∀ n hlt, (outsAt0 m c n hlt).2 = val_main_v12 (F := Ideal) (X0 m c) (X1 m c) :=
  Cert.Carry.holds 12 (fun n h => (outsAt0 m c n h).2) (fun _ => val_main_v12 (F := Ideal) (X0 m c) (X1 m c))
    (fun n h h0 => by
      refine Eq.trans ?_ (rows_eq m c ⟨n, h⟩)
      beta_reduce
      rw [outsAt0_A m c ⟨n, h⟩ h0]
      frame_out)
    (fun n h h0 => by
      beta_reduce
      rw [outsAt0_B m c ⟨n + 1, h⟩ h0]
      rfl)
    (fun _ _ => rfl)

/-- A point's tile is the product of what the scratch holds and the point's weight tile. -/
theorem out_eq (c : Dev nD) (t : Fin cfg0.N) :
    (outsAt0 m c t.val t.isLt).1 = k0_pay2 (outsAt0 m c t.val t.isLt).2 (iblk m c 2 t) := by
  by_cases h0 : t.val % 12 = 0
  · rw [outsAt0_A m c t h0]
    frame_out
  · rw [outsAt0_B m c t h0]
    frame_out
    rw [read_unread_whole]
    rfl

theorem final (c : Dev nD) : (dats m 0 c).arrAt 4 cfg0.N
    = val_main_v16 (F := Ideal) (X0 m c) (X1 m c) (X2 m c) := by
  refine (dats m 0 c).arrAt_eq_of_covers 4 _ (by decide +kernel) fun t hf y => ?_
  have ht : t.val < 12 := lt_of_lt_of_eq t.isLt N_0
  blk_simp
  rw [after0_4, out_eq m c t, carried m c]
  refine (tile_apply _ _ y).trans ?_
  pointwise [val_main_v16, val_main_v15, val_main_v14, val_main_v13]
  refine Finset.sum_congr rfl fun k _ => congrArg₂ (fun a b : EReal => a * b) (congrArg _ ?_) ?_
  · refine congrArg (fun r => ix2 r k) (Fin.ext ?_)
    blk_simp [e4 t]
  · blk_ext! [iblk, V, e2 t, e4 t]

/-- The kernel's run and the reference's, from equal arguments, end with equal results. -/
theorem alg : Cert.algebraic_Kernel12Ideal_Reference12Ideal := by
  intro m g m' g' _ hm
  refine ⟨fun c => (dats m 0 c).arrAt 4 cfg0.N, Cert.Kernel12Ideal.Value.run_blocks m g, ?_⟩
  refine (θ_run _ _ _).mono (fun r h c => ⟨?_, (h c).2⟩) (Cert.Reference12Ideal.Value.run m' g')
  obtain ⟨h0, h1, h2⟩ := hm c
  beta_reduce
  rw [final m c, X0, X1, X2, ← h0, ← h1, ← h2]
  exact (h c).1.trans (val_main_v16_eq _ _ _)

end Cert.NmmS
-- ==== Proof.NmmLS.lean ====
module

public import proofs.«01_k».proof.Defs
public import proofs.«01_k».proof.Proof.Gen.Kernel13Ideal.Value
public import proofs.«01_k».proof.Proof.Gen.Reference13Ideal.Read
public import proofs.«01_k».proof.Proof.NmmS
public import Idealize.ShloMosaic.Lib.Pipeline.ValueKit.Point
public import Idealize.ShloMosaic.Lib.Pipeline.ReadBack

@[expose] public section

noncomputable section

/-! The in-projection of the second gated-DeltaNet layer on the sample rows: one row block, so a point's number is the number
    of its block of columns. -/
namespace Cert.NmmLS

open Cert.Kernel13Ideal Cert.Kernel13Ideal.Gen Idealize.ShloMosaic Idealize.ShloMosaic.TcCoe Idealize.SL.Sem
open Idealize.ShloMosaic.Pipeline (Dat)
open Cert.Reference13Ideal.Read

variable (m : (ℓ : Loc nD τ sig) → Buf (Elt Ideal) ℓ)

/-- The argument arrays of the kernel, as functions of their indices. -/
abbrev X0 (c : Dev nD) : S512x2048.Idx → EReal := m ((c : Thread nD τ).loc main_arg0)
abbrev X1 (c : Dev nD) : S2048.Idx → EReal := m ((c : Thread nD τ).loc main_arg1)
abbrev X2 (c : Dev nD) : S2x2048x12352.Idx → EReal := m ((c : Thread nD τ).loc main_arg2)

theorem e0 : ∀ t : Fin cfg0.N, win0_0.index t = ![0, 0] := (by decide +kernel : ∀ t : Fin grid0.N, win0_0.index t = ![0, 0])
theorem e1 : ∀ t : Fin cfg0.N, win0_1.index t = ![0, 0] := (by decide +kernel : ∀ t : Fin grid0.N, win0_1.index t = ![0, 0])
theorem e2 : ∀ t : Fin cfg0.N, win0_2.index t = ![1, 0, t.val] := (by decide +kernel : ∀ t : Fin grid0.N, win0_2.index t = ![1, 0, t.val])
theorem e4 : ∀ t : Fin cfg0.N, win0_4.index t = ![0, t.val] := (by decide +kernel : ∀ t : Fin grid0.N, win0_4.index t = ![0, t.val])

/-- The normalised rows that the first point computes are the reference's. -/
theorem rows_eq (c : Dev nD) (t : Fin cfg0.N) :
    k0_pay1 (F := Ideal) (iblk m c 0 t) (iblk m c 1 t) = val_main_v12 (F := Ideal) (X0 m c) (X1 m c) := by
  funext j
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

/-- The carried scratch holds them after every point. -/
theorem carried (c : Dev nD) : ∀ n hlt, (outsAt0 m c n hlt).2 = val_main_v12 (F := Ideal) (X0 m c) (X1 m c) :=
  Cert.Carry.holds 12 (fun n h => (outsAt0 m c n h).2) (fun _ => val_main_v12 (F := Ideal) (X0 m c) (X1 m c))
    (fun n h h0 => by
      refine Eq.trans ?_ (rows_eq m c ⟨n, h⟩)
      beta_reduce
      rw [outsAt0_A m c ⟨n, h⟩ h0]
      frame_out)
    (fun n h h0 => by
      beta_reduce
      rw [outsAt0_B m c ⟨n + 1, h⟩ h0]
      rfl)
    (fun _ _ => rfl)

/-- A point's tile is the product of what the scratch holds and the point's weight tile. -/
theorem out_eq (c : Dev nD) (t : Fin cfg0.N) :
    (outsAt0 m c t.val t.isLt).1 = k0_pay2 (outsAt0 m c t.val t.isLt).2 (iblk m c 2 t) := by
  by_cases h0 : t.val % 12 = 0
  · rw [outsAt0_A m c t h0]
    frame_out
  · rw [outsAt0_B m c t h0]
    frame_out
    rw [read_unread_whole]
    rfl

theorem final (c : Dev nD) : (dats m 0 c).arrAt 4 cfg0.N
    = val_main_v16 (F := Ideal) (X0 m c) (X1 m c) (X2 m c) := by
  refine (dats m 0 c).arrAt_eq_of_covers 4 _ (by decide +kernel) fun t hf y => ?_
  have ht : t.val < 12 := lt_of_lt_of_eq t.isLt N_0
  blk_simp
  rw [after0_4, out_eq m c t, carried m c]
  refine (Cert.NmmS.tile_apply _ _ y).trans ?_
  pointwise [val_main_v16, val_main_v15, val_main_v14, val_main_v13]
  refine Finset.sum_congr rfl fun k _ => congrArg₂ (fun a b : EReal => a * b) (congrArg _ ?_) ?_
  · refine congrArg (fun r => ix2 r k) (Fin.ext ?_)
    blk_simp [e4 t]
  · blk_ext! [iblk, V, e2 t, e4 t]

/-- The kernel's run and the reference's, from equal arguments, end with equal results. -/
theorem alg : Cert.algebraic_Kernel13Ideal_Reference13Ideal := by
  intro m g m' g' _ hm
  refine ⟨fun c => (dats m 0 c).arrAt 4 cfg0.N, Cert.Kernel13Ideal.Value.run_blocks m g, ?_⟩
  refine (θ_run _ _ _).mono (fun r h c => ⟨?_, (h c).2⟩) (Cert.Reference13Ideal.Value.run m' g')
  obtain ⟨h0, h1, h2⟩ := hm c
  beta_reduce
  rw [final m c, X0, X1, X2, ← h0, ← h1, ← h2]
  exact (h c).1.trans (val_main_v16_eq _ _ _)

end Cert.NmmLS
-- ==== Proof.GdnGate.lean ====
module

public import proofs.«01_k».proof.Defs
public import proofs.«01_k».proof.Proof.Gen.Kernel14Ideal.Value
public import proofs.«01_k».proof.Proof.Gen.Reference14Ideal.Read
public import Idealize.ShloMosaic.Lib.Pipeline.ValueKit.Point
public import Idealize.ShloMosaic.Lib.WordCmp

@[expose] public section

noncomputable section

/-! The gates of a gated-DeltaNet layer: the logistic columns and the running sums of the log-decay in chunks of 64 rows. -/
namespace Cert.GdnGate

open Cert.Kernel14Ideal Cert.Kernel14Ideal.Gen Idealize.ShloMosaic Idealize.ShloMosaic.TcCoe Idealize.SL.Sem
open Idealize.ShloMosaic.Pipeline (Dat)
open Cert.Reference14Ideal.Read

/-- The logistic function. -/
def sigm (s : EReal) : EReal := Ideal.div 1 (1 + Ideal.exp (-s))

/-- The log-decay of a product `s`, from the logarithm `a` of its rate and its offset `b`. -/
def decay (s a b : EReal) : EReal :=
  -Ideal.exp a * (max (s + b) 0 + Ideal.log (1 + Ideal.exp (-FloatOps.absf (F := Ideal) (φ := .f32) (s + b))))

/-! ### The reference -/

section
variable (a0 : S8192x2048.Idx → EReal) (a1 : S2048.Idx → EReal) (a2 : S2048x128.Idx → EReal) (a3 : S1x2x128.Idx → EReal)

/-- The product of the normalised row `r` with column `l`. -/
def prod (r : Fin 8192) (l : Fin 128) : EReal := ∑ k : Fin 2048, val_main_v12 (F := Ideal) a0 a1 (ix2 r k) * a2 (ix2 k l)

theorem ref_sigm (r : Fin 8192) (h : Fin 32) :
    val_main_v24 (F := Ideal) a0 a1 a2 (ix2 r h) = sigm (prod a0 a1 a2 r ⟨h.val, by omega⟩) := by
  unfold sigm prod
  pointwise [val_main_v24, val_main_v23, val_main_v22, val_main_v21, val_main_v20, val_main_v19, val_main_v18, val_main_v13, val_main_cst_2, val_main_cst_3]

theorem ref_decay (r : Fin 8192) (h : Fin 32) :
    val_main_v34 (F := Ideal) a0 a1 a2 a3 (ix2 r h)
      = decay (prod a0 a1 a2 r ⟨32 + h.val, by omega⟩) (a3 (ix3 0 0 ⟨32 + h.val, by omega⟩)) (a3 (ix3 0 1 ⟨32 + h.val, by omega⟩)) := by
  unfold decay prod
  pointwise [val_main_v34, val_main_v33, val_main_v32, val_main_v31, val_main_v30, val_main_v29, val_main_v28, val_main_v27, val_main_v26, val_main_v25, val_main_v17, val_main_v16, val_main_v15, val_main_v14, val_main_call0_v4, val_main_call0_v6, val_main_call0_v11, val_main_call0_v10, val_main_call0_v9, val_main_call0_v8, val_main_call0_v7, val_main_call0_v5, val_main_call0_v3, val_main_call0_v2, val_main_call0_v1, val_main_call0_v0, val_main_call0_cst, val_main_v13]
  rw [if_neg (fun h => h rfl)]
  rfl

/-- The running sum at a row: the log-decay of the rows of its chunk up to it. -/
theorem ref_cum (r : Fin 8192) (h : Fin 32) :
    val_main_v47 (F := Ideal) a0 a1 a2 a3 (ix2 r h)
      = ∑ k : Fin 64, if k.val ≤ r.val % 64 then val_main_v34 (F := Ideal) a0 a1 a2 a3 (ix2 ⟨r.val / 64 * 64 + k.val, by omega⟩ h) else 0 := by
  pointwise [val_main_v47, val_main_v46, val_main_v45, val_main_v44, val_main_v43, val_main_v42, val_main_v41, val_main_v40, val_main_v39, val_main_v38, val_main_v37, val_main_v36, val_main_v35, val_main_call1_v3, val_main_call1_v2, val_main_call1_v1, val_main_call1_v0, val_main_cst_4, val_main_cst_5]
  refine Finset.sum_congr rfl fun k _ => ?_
  rw [WordCmp.cmpi_sge_ofNat (by omega) (by omega), WordCmp.select_ofBool]
  simp only [decide_eq_true_eq]
  refine if_congr Iff.rfl rfl ?_
  simp only [id_eq]
  pointwise

/-- A chunk's running sum in column `l`: none outside the second 32 columns. -/
def cum (r : Fin 8192) (l : Fin 128) : EReal :=
  if 32 ≤ l.val ∧ l.val < 64 then
    ∑ k : Fin 64, if k.val ≤ r.val % 64 then
      decay (prod a0 a1 a2 ⟨r.val / 64 * 64 + k.val, by omega⟩ l) (a3 (ix3 0 0 l)) (a3 (ix3 0 1 l)) else 0
  else 0

/-- The reference's result at an index. -/
theorem ref_apply (r : Fin 8192) (l : Fin 128) :
    val_main_v49 (F := Ideal) a0 a1 a2 a3 (ix2 r l)
      = if l.val < 32 then sigm (prod a0 a1 a2 r l) else cum a0 a1 a2 a3 r l := by
  pointwise [val_main_v49, val_main_v48, val_main_cst_6]
  by_cases h1 : l.val < 32
  · rw [dif_pos h1, if_pos h1, ref_sigm]
  · rw [dif_neg h1, if_neg h1, cum]
    by_cases h2 : l.val - 32 < 32
    · rw [dif_pos h2]
      refine (ref_cum a0 a1 a2 a3 r ⟨l.val - 32, h2⟩).trans ?_
      rw [if_pos (by omega)]
      refine Finset.sum_congr rfl fun k _ => if_congr Iff.rfl ?_ rfl
      have e : (⟨32 + (l.val - 32), by omega⟩ : Fin 128) = l := Fin.ext (by dsimp only; omega)
      rw [ref_decay, e]
    · rw [dif_neg h2, if_neg (by omega)]
end

/-! ### The kernel's words -/

/-- The word that tells a live row, at row `r` of block `a`: the row's number modulo 2048, made non-negative, is below 2048. -/
theorem live_word : ∀ (a : Fin 16) (r : Fin 512), IntOp.cmpi CmpIPredicate.slt
      (Scalar.select
        (IntOp.andi
          (IntOp.xori
            (IntOp.cmpi CmpIPredicate.slt
              (IntOp.remsi ArithUnit.vector
                (IntOp.addi (BitVec.ofNat 32 r.val) (Scalar.muli (BitVec.ofNat 32 a.val) 512#32))
                (Scalar.select (Scalar.cmpi CmpIPredicate.eq 2048#32 0#32) 1#32 2048#32))
              0#32)
            (Scalar.cmpi CmpIPredicate.slt (Scalar.select (Scalar.cmpi CmpIPredicate.eq 2048#32 0#32) 1#32 2048#32)
              0#32))
          (IntOp.cmpi CmpIPredicate.ne
            (IntOp.remsi ArithUnit.vector
              (IntOp.addi (BitVec.ofNat 32 r.val) (Scalar.muli (BitVec.ofNat 32 a.val) 512#32))
              (Scalar.select (Scalar.cmpi CmpIPredicate.eq 2048#32 0#32) 1#32 2048#32))
            0#32))
        (IntOp.addi
          (IntOp.remsi ArithUnit.vector (IntOp.addi (BitVec.ofNat 32 r.val) (Scalar.muli (BitVec.ofNat 32 a.val) 512#32))
            (Scalar.select (Scalar.cmpi CmpIPredicate.eq 2048#32 0#32) 1#32 2048#32))
          (Scalar.select (Scalar.cmpi CmpIPredicate.eq 2048#32 0#32) 1#32 2048#32))
        (IntOp.remsi ArithUnit.vector (IntOp.addi (BitVec.ofNat 32 r.val) (Scalar.muli (BitVec.ofNat 32 a.val) 512#32))
          (Scalar.select (Scalar.cmpi CmpIPredicate.eq 2048#32 0#32) 1#32 2048#32)))
      2048#32 = 1#1 := by decide +kernel

/-- The quotient by 64, rounded down, as the kernel computes it on words. -/
theorem chunk_word : ∀ x : Fin 512, (Scalar.select
                (IntOp.andi
                  (IntOp.cmpi CmpIPredicate.ne
                    (IntOp.subi (BitVec.setWidth 32 (IntOp.cmpi CmpIPredicate.sgt (BitVec.ofNat 32 x.val) 0#32))
                      (BitVec.setWidth 32 (IntOp.cmpi CmpIPredicate.slt (BitVec.ofNat 32 x.val) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 x.val) 64#32) 0#32))
                (IntOp.subi (IntOp.divsi ArithUnit.vector (BitVec.ofNat 32 x.val) 64#32) 1#32)
                (IntOp.divsi ArithUnit.vector (BitVec.ofNat 32 x.val) 64#32)) = BitVec.ofNat 32 (x.val / 64) := by decide +kernel

/-- The row mask is set everywhere: the rows of a sequence are all live. -/
theorem live (i : grid0.Coords) : k0_pay4 i = fun _ => 1#1 := by
  funext j
  pointwise [k0_pay4]
  exact live_word (i 0) (j 0)

/-! ### What a point stores -/

/-- The log-decay tile at an index. -/
theorem g_apply (p : S512x128.Idx → EReal) (a : S2x128.Idx → EReal) (r : Fin 512) (l : Fin 128) :
    k0_pay7 (F := Ideal) p a (iota .tc S512x128 32 [1] iota_S512x128_d1_w32) (fun _ => 1#1) (ix2 r l)
      = if 32 ≤ l.val ∧ l.val < 64 then decay (p (ix2 r l)) (a (ix2 0 l)) (a (ix2 1 l)) else 0 := by
  unfold decay
  pointwise [k0_pay7]
  rw [WordCmp.cmpi_sge_ofNat (by omega) (by omega), WordCmp.cmpi_slt_ofNat (by omega) (by omega), WordCmp.andi_ofBool, WordCmp.select_ofBool]
  simp only [Bool.and_eq_true, decide_eq_true_eq]
  refine if_congr Iff.rfl ?_ rfl
  rw [zero_sub, zero_sub]

/-- Of a sum over 512 rows, restricted to the rows of `r`'s chunk up to `r`, the chunk's part is left. -/
theorem sum_chunk (f : Fin 512 → EReal) (r : Fin 512) :
    (∑ x : Fin 512, if r.val / 64 = x.val / 64 ∧ x.val ≤ r.val then f x else 0)
      = ∑ k : Fin 64, if k.val ≤ r.val % 64 then f ⟨r.val / 64 * 64 + k.val, by omega⟩ else 0 := by
  rw [← Fin.sum_mul_add_fin 8 64, Finset.sum_eq_single (⟨r.val / 64, by omega⟩ : Fin 8)]
  · exact Finset.sum_congr rfl fun k _ => if_congr (by dsimp only; omega) rfl rfl
  · intro s _ hs
    refine Finset.sum_eq_zero fun k _ => if_neg fun h => hs (Fin.ext ?_)
    have h1 := h.1
    dsimp only at h1 ⊢
    omega
  · exact fun h => absurd (Finset.mem_univ _) h

/-- The stored tile at an index: the first tile in the first 32 columns, the running sums of the second one elsewhere. -/
theorem out_apply (b g : S512x128.Idx → EReal) (r : Fin 512) (l : Fin 128) :
    k0_pay10 (F := Ideal) (iota .tc S512x128 32 [1] iota_S512x128_d1_w32) b g (iota .tc S512x512 32 [0] iota_S512x512_d0_w32)
        (iota .tc S512x512 32 [1] iota_S512x512_d1_w32) 64#32 k0_pay8 k0_pay9 (Scalar.extui (Scalar.cmpi .sgt 64#32 0#32)) 0#32 (ix2 r l)
      = if l.val < 32 then b (ix2 r l)
        else ∑ k : Fin 64, if k.val ≤ r.val % 64 then g (ix2 ⟨r.val / 64 * 64 + k.val, by omega⟩ l) else 0 := by
  rw [← sum_chunk (fun x => g (ix2 x l)) r]
  pointwise [k0_pay10, k0_pay8, k0_pay9]
  rw [WordCmp.cmpi_slt_ofNat (by omega) (by omega), WordCmp.select_ofBool]
  simp only [decide_eq_true_eq]
  refine if_congr Iff.rfl rfl (Finset.sum_congr rfl fun x _ => ?_)
  have e1 := chunk_word r
  have e2 := chunk_word x
  rw [e1, e2, WordCmp.cmpi_eq_ofNat (by omega) (by omega), WordCmp.cmpi_sle_ofNat (by omega) (by omega), WordCmp.andi_ofBool, WordCmp.select_ofBool]
  simp only [Bool.and_eq_true, decide_eq_true_eq]

variable (m : (ℓ : Loc nD τ sig) → Buf (Elt Ideal) ℓ)

/-- The argument arrays of the kernel, as functions of their indices. -/
abbrev X0 (c : Dev nD) : S8192x2048.Idx → EReal := m ((c : Thread nD τ).loc main_arg0)
abbrev X1 (c : Dev nD) : S2048.Idx → EReal := m ((c : Thread nD τ).loc main_arg1)
abbrev X2 (c : Dev nD) : S2048x128.Idx → EReal := m ((c : Thread nD τ).loc main_arg2)
abbrev X3 (c : Dev nD) : S1x2x128.Idx → EReal := m ((c : Thread nD τ).loc main_arg3)

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0, 0] := (by decide +kernel : ∀ t : Fin grid0.N, win0_3.index t = ![0, 0, 0])
theorem e4 : ∀ t : Fin cfg0.N, win0_4.index t = ![t.val, 0] := (by decide +kernel : ∀ t : Fin grid0.N, win0_4.index t = ![t.val, 0])

/-- The row of the arrays that row `r` of point `t`'s blocks is. -/
def row (t : Fin cfg0.N) (r : Fin 512) : Fin 8192 := ⟨t.val * 512 + r.val, by have := lt_of_lt_of_eq t.isLt N_0; omega⟩

/-- A point's normalised rows are the reference's. -/
theorem nrm_eq (c : Dev nD) (t : Fin cfg0.N) (r : Fin 512) (k : Fin 2048) :
    k0_pay1 (F := Ideal) (iblk m c 0 t) (iblk m c 1 t) (ix2 r k) = val_main_v12 (F := Ideal) (X0 m c) (X1 m c) (ix2 (row t r) k) := by
  have ht : t.val < 16 := lt_of_lt_of_eq t.isLt N_0
  unfold row
  pointwise [k0_pay1, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, V_main_arg0, e0 t, e1 t]

/-- A point's product is the reference's. -/
theorem prod_eq (c : Dev nD) (t : Fin cfg0.N) (r : Fin 512) (l : Fin 128) :
    k0_pay2 (F := Ideal) (k0_pay1 (iblk m c 0 t) (iblk m c 1 t)) (iblk m c 2 t) (ix2 r l)
      = prod (X0 m c) (X1 m c) (X2 m c) (row t r) l := by
  unfold prod
  pointwise [k0_pay2]
  refine Finset.sum_congr rfl fun k _ => congrArg₂ (fun a b : EReal => a * b) (nrm_eq m c t r k) ?_
  blk_point [iblk, V, e2 t]

/-- A point's two rows of parameters are the argument's. -/
theorem aux_eq (c : Dev nD) (t : Fin cfg0.N) (s : Fin 2) (l : Fin 128) :
    k0_pay3 (F := Ideal) (iblk m c 3 t) (ix2 s l) = X3 m c (ix3 0 s l) := by
  pointwise [k0_pay3]
  blk_point [iblk, V, V_main_arg3, e3 t]

theorem out_eq (c : Dev nD) (t : Fin cfg0.N) : outsAt0 m c t
    = k0_pay10 (iota .tc S512x128 32 [1] iota_S512x128_d1_w32)
        (k0_pay6 (fun _ => 1#1) (k0_pay5 (k0_pay1 (iblk m c 0 t) (iblk m c 1 t)) (iblk m c 2 t)))
        (k0_pay7 (k0_pay2 (k0_pay1 (iblk m c 0 t) (iblk m c 1 t)) (iblk m c 2 t)) (k0_pay3 (iblk m c 3 t))
          (iota .tc S512x128 32 [1] iota_S512x128_d1_w32) (fun _ => 1#1))
        (iota .tc S512x512 32 [0] iota_S512x512_d0_w32) (iota .tc S512x512 32 [1] iota_S512x512_d1_w32) 64#32 k0_pay8 k0_pay9 1#32 0#32 := by
  rw [← live (grid0.coords t)]
  unfold outsAt0
  frame_out

/-- A point's result is the reference's in its rows. -/
theorem point (c : Dev nD) (t : Fin cfg0.N) (r : Fin 512) (l : Fin 128) :
    outsAt0 m c t (ix2 r l) = val_main_v49 (F := Ideal) (X0 m c) (X1 m c) (X2 m c) (X3 m c) (ix2 (row t r) l) := by
  have ht : t.val < 16 := lt_of_lt_of_eq t.isLt N_0
  rw [out_eq, ref_apply]
  refine (out_apply _ _ r l).trans (if_congr Iff.rfl ?_ ?_)
  · rw [← prod_eq, sigm]
    pointwise [k0_pay6, k0_pay5]
    rw [zero_sub]
  · rw [cum]
    by_cases h : 32 ≤ l.val ∧ l.val < 64
    · rw [if_pos h]
      refine Finset.sum_congr rfl fun k _ => if_congr (by simp only [row]; omega) ?_ rfl
      rw [g_apply, if_pos h, prod_eq, aux_eq, aux_eq]
      refine congrArg (fun x => decay (prod (X0 m c) (X1 m c) (X2 m c) x l) _ _) (Fin.ext ?_)
      simp only [row]
      omega
    · rw [if_neg h]
      refine Finset.sum_eq_zero fun k _ => ?_
      rw [g_apply, if_neg h, ite_self]

theorem final (c : Dev nD) : (dats m 0 c).arrAt 4 cfg0.N
    = val_main_v49 (F := Ideal) (X0 m c) (X1 m c) (X2 m c) (X3 m c) := by
  refine (dats m 0 c).arrAt_eq_of_covers 4 _ (by decide +kernel) fun t hf y => ?_
  blk_simp
  rw [after0_4]
  obtain ⟨r, l, rfl⟩ : ∃ (r : Fin 512) (l : Fin 128), y = ix2 r l := ⟨y 0, y 1, by
    funext a
    match a with
    | 0 => rfl
    | 1 => rfl⟩
  refine (point m c t r l).trans (congrArg _ (funext fun a => ?_))
  match a with
  | 0 =>
    refine Fin.ext ?_
    show t.val * 512 + r.val = _
    blk_simp [e4 t]
  | 1 =>
    refine Fin.ext ?_
    blk_simp [e4 t]

/-- The kernel's run and the reference's, from equal arguments, end with equal results. -/
theorem alg : Cert.algebraic_Kernel14Ideal_Reference14Ideal := by
  intro m g m' g' _ hm
  refine ⟨fun c => (dats m 0 c).arrAt 4 cfg0.N, Cert.Kernel14Ideal.Value.run_blocks m g, ?_⟩
  refine (θ_run _ _ _).mono (fun r h c => ⟨?_, (h c).2⟩) (Cert.Reference14Ideal.Value.run m' g')
  obtain ⟨h0, h1, h2, h3⟩ := hm c
  beta_reduce
  rw [final m c, X0, X1, X2, X3, ← h0, ← h1, ← h2, ← h3]
  exact (h c).1.trans (val_main_v49_eq _ _)

end Cert.GdnGate
-- ==== Proof.Cmp2.lean ====
module

public import proofs.«01_k».proof.Defs
public import proofs.«01_k».proof.Proof.Gen.Kernel15Ideal.Value
public import proofs.«01_k».proof.Proof.Gen.Reference15Ideal.Read
public import proofs.«01_k».proof.Proof.HeadNorm
public import Idealize.ShloMosaic.Lib.Pipeline.ValueKit.Point
public import Idealize.ShloMosaic.Lib.Pipeline.ReadBack
public import Idealize.ShloMosaic.Lib.StableHlo.RunRead

@[expose] public section

noncomputable section

/-! The second stage of the key/value compression: the two-layer perceptron over blocks, from the first layer's values on the rows. -/
namespace Cert.Cmp2

open Cert.Kernel15Ideal Cert.Kernel15Ideal.Gen Idealize.ShloMosaic Idealize.ShloMosaic.TcCoe Idealize.SL.Sem
open Idealize.ShloMosaic.Pipeline (Dat)
open Cert.Reference15Ideal.Read Cert.HeadNorm

section
variable (x0 x1 : S2x2048x128.Idx → EReal) (x2 : S2x32x128.Idx → EReal) (x3 : S2x32x128x128.Idx → EReal) (x4 : S2x128.Idx → EReal) (x5 : S2x128x128.Idx → EReal) (x6 : S2x128.Idx → EReal) (x7 : S128.Idx → EReal) (s : Fin 2) (r : Fin 2048) (l : Fin 128)

/-- The first layer at a row: the sum of its two halves, of the positions' part and of the offset. -/
def pre (x : Fin 128) : EReal := x0 (ix3 s r x) + x1 (ix3 s r x) + val_main_v2 (F := Ideal) x2 x3 (ix2 s x) + x4 (ix2 s x)

/-- The reference's product with the second layer at an index. -/
theorem ref_apply : val_main_v14 (F := Ideal) x0 x1 x2 x3 x4 x5 x6 (ix3 s r l)
    = ∑ x, pre x0 x1 x2 x3 x4 s r x * Ideal.div 1 (1 + Ideal.exp (-pre x0 x1 x2 x3 x4 s r x)) * x5 (ix3 s x l) + x6 (ix2 s l) := by
  unfold pre
  pointwise [val_main_v14, val_main_v13, val_main_v12, val_main_v11, val_main_v10, val_main_call0_v5, val_main_call0_v4, val_main_call0_cst_0, val_main_call0_v3, val_main_call0_v2, val_main_call0_cst, val_main_call0_v1, val_main_call0_v0, val_main_v9, val_main_v8, val_main_v7, val_main_v6, val_main_v5, val_main_v4, val_main_v3]

/-- The positions' part of the first layer. -/
theorem pos_apply : val_main_v2 (F := Ideal) x2 x3 (ix2 s l)
    = ∑ k : Fin 4096, x2 (ix3 s ⟨k.val / 128, by omega⟩ ⟨k.val % 128, by omega⟩) * x3 (ix4 s ⟨k.val / 128, by omega⟩ ⟨k.val % 128, by omega⟩ l) := by
  pointwise [val_main_v2, val_main_v1, val_main_v0]

/-- The keys are normed, the values are not. -/
theorem ref_keys : val_main_v34 (F := Ideal) x0 x1 x2 x3 x4 x5 x6 x7 (ix3 0 r l) = nrm (fun x => val_main_v14 (F := Ideal) x0 x1 x2 x3 x4 x5 x6 (ix3 0 r x)) l * x7 (ix1 l) := by
  unfold nrm
  pointwise [val_main_v34, val_main_v32, val_main_v31, val_main_v30, val_main_v29, val_main_v28, val_main_v27, val_main_v26, val_main_v25, val_main_v24, val_main_cst_1, val_main_v23, val_main_v22, val_main_cst_0, val_main_v21, val_main_v20, val_main_cst, val_main_v19, val_main_v16, val_main_v15]
theorem ref_vals : val_main_v34 (F := Ideal) x0 x1 x2 x3 x4 x5 x6 x7 (ix3 1 r l) = val_main_v14 (F := Ideal) x0 x1 x2 x3 x4 x5 x6 (ix3 1 r l) := by
  pointwise [val_main_v34, val_main_v33, val_main_v18, val_main_v17]
end

/-- What a point computes before the norm. -/
abbrev tile (v0 : S1x8x4096.Idx → EReal) (v3 : S1x4096x128.Idx → EReal) (v7 v9 : S1x2048x128.Idx → EReal) (v14 : S1x1x128.Idx → EReal) (v27 : S1x128x128.Idx → EReal) (v30 : S1x1x128.Idx → EReal) : S2048x128.Idx → EReal :=
  k0_pay1 (F := Ideal) (k0_pay4 v0 v3 v7 v9 v14 v27) (k0_pay5 v30)

theorem tile_apply (v0 : S1x8x4096.Idx → EReal) (v3 : S1x4096x128.Idx → EReal) (v7 v9 : S1x2048x128.Idx → EReal) (v14 : S1x1x128.Idx → EReal) (v27 : S1x128x128.Idx → EReal) (v30 : S1x1x128.Idx → EReal)
    (p : Fin 128 → EReal) (r : Fin 2048) (hp : ∀ x, v7 (ix3 0 r x) + v9 (ix3 0 r x) + (∑ k, v0 (ix3 0 0 k) * v3 (ix3 0 k x)) + v14 (ix3 0 0 x) = p x) (l : Fin 128) :
    tile v0 v3 v7 v9 v14 v27 v30 (ix2 r l) = ∑ x, p x * Ideal.div 1 (1 + Ideal.exp (-p x)) * v27 (ix3 0 x l) + v30 (ix3 0 0 l) := by
  pointwise [k0_pay1, k0_pay4, k0_pay5]
  simp only [hp, zero_sub]

theorem keys_apply (v29 : S2048x128.Idx → EReal) (v31 v50 : S1x128.Idx → EReal) (r : Fin 2048) (l : Fin 128) :
   k0_pay2 (F := Ideal) v29 v31 v50 (ix3 0 r l) = nrm (fun x => k0_pay1 (F := Ideal) v29 v31 (ix2 r x)) l * v50 (ix2 0 l) := by
  unfold nrm
  pointwise [k0_pay2]
theorem vals_apply (v29 : S2048x128.Idx → EReal) (v31 : S1x128.Idx → EReal) (r : Fin 2048) (l : Fin 128) :
   k0_pay3 (F := Ideal) v29 v31 (ix3 0 r l) = k0_pay1 (F := Ideal) v29 v31 (ix2 r l) := by
  pointwise [k0_pay3]

variable (m : (ℓ : Loc nD τ sig) → Buf (Elt Ideal) ℓ)
theorem e0 : ∀ t : Fin cfg0.N, win0_0.index t = ![t.val, 0, 0] := (by decide +kernel : ∀ t : Fin grid0.N, win0_0.index t = ![t.val, 0, 0])
theorem e1 : ∀ t : Fin cfg0.N, win0_1.index t = ![t.val, 0, 0] := (by decide +kernel : ∀ t : Fin grid0.N, win0_1.index t = ![t.val, 0, 0])
theorem e2 : ∀ t : Fin cfg0.N, win0_2.index t = ![t.val, 0, 0] := (by decide +kernel : ∀ t : Fin grid0.N, win0_2.index t = ![t.val, 0, 0])
theorem e3 : ∀ t : Fin cfg0.N, win0_3.index t = ![t.val, 0, 0] := (by decide +kernel : ∀ t : Fin grid0.N, win0_3.index t = ![t.val, 0, 0])
theorem e4 : ∀ t : Fin cfg0.N, win0_4.index t = ![t.val, 0, 0] := (by decide +kernel : ∀ t : Fin grid0.N, win0_4.index t = ![t.val, 0, 0])
theorem e5 : ∀ t : Fin cfg0.N, win0_5.index t = ![t.val, 0, 0] := (by decide +kernel : ∀ t : Fin grid0.N, win0_5.index t = ![t.val, 0, 0])
theorem e6 : ∀ t : Fin cfg0.N, win0_6.index t = ![t.val, 0, 0] := (by decide +kernel : ∀ t : Fin grid0.N, win0_6.index t = ![t.val, 0, 0])
theorem e7 : ∀ t : Fin cfg0.N, win0_7.index t = ![0, 0] := (by decide +kernel : ∀ t : Fin grid0.N, win0_7.index t = ![0, 0])
theorem e8 : ∀ t : Fin cfg0.N, win0_8.index t = ![t.val, 0, 0] := (by decide +kernel : ∀ t : Fin grid0.N, win0_8.index t = ![t.val, 0, 0])

abbrev X0 (c : Dev nD) : S2x2048x128.Idx → EReal := m ((c : Thread nD τ).loc main_arg0)
abbrev X1 (c : Dev nD) : S2x2048x128.Idx → EReal := m ((c : Thread nD τ).loc main_arg1)
abbrev X2 (c : Dev nD) : S2x32x128.Idx → EReal := m ((c : Thread nD τ).loc main_arg2)
abbrev X3 (c : Dev nD) : S2x32x128x128.Idx → EReal := m ((c : Thread nD τ).loc main_arg3)
abbrev X4 (c : Dev nD) : S2x128.Idx → EReal := m ((c : Thread nD τ).loc main_arg4)
abbrev X5 (c : Dev nD) : S2x128x128.Idx → EReal := m ((c : Thread nD τ).loc main_arg5)
abbrev X6 (c : Dev nD) : S2x128.Idx → EReal := m ((c : Thread nD τ).loc main_arg6)
abbrev X7 (c : Dev nD) : S128.Idx → EReal := m ((c : Thread nD τ).loc main_arg7)

/-- The half, keys or values, that a point computes. -/
def half (t : Fin cfg0.N) : Fin 2 := ⟨t.val, lt_of_lt_of_eq t.isLt N_0⟩

/-- The arrays the host lays out: the positions' flattened block, its weights, and the offsets and gains. -/
theorem V1_eq (c : Dev nD) (s : Fin 2) (k : Fin 4096) :
    V m c main_v1 (ix3 s 0 k) = X2 m c (ix3 s ⟨k.val / 128, by omega⟩ ⟨k.val % 128, by omega⟩) := by
  after_reads_simp
  show pad S2x8x4096 ![0, 0, 0] ![0, 7, 0] ![0, 0, 0] (shapeCast S2x1x4096 (X2 m c) shapeCasts_S2x32x128_S2x1x4096)
    (sitofp (F := Ideal) .f32 (constantI S_ 32 0#32)) pads_S2x1x4096_S2x8x4096_000_070_000 h_S_ (ix3 s 0 k) = _
  pointwise
theorem V3_eq (c : Dev nD) (s : Fin 2) (k : Fin 4096) (l : Fin 128) :
    V m c main_v3 (ix3 s k l) = X3 m c (ix4 s ⟨k.val / 128, by omega⟩ ⟨k.val % 128, by omega⟩ l) := by
  after_reads_simp
  pointwise
theorem V5_eq (c : Dev nD) (s : Fin 2) (l : Fin 128) : V m c main_v5 (ix3 s 0 l) = X4 m c (ix2 s l) := by
  after_reads_simp
  pointwise
theorem V6_eq (c : Dev nD) (s : Fin 2) (l : Fin 128) : V m c main_v6 (ix3 s 0 l) = X6 m c (ix2 s l) := by
  after_reads_simp
  pointwise
theorem V7_eq (c : Dev nD) (l : Fin 128) : V m c main_v7 (ix2 0 l) = X7 m c (ix1 l) := by
  after_reads_simp
  pointwise

theorem b0 (c : Dev nD) (t : Fin cfg0.N) (r : Fin 2048) (l : Fin 128) : iblk m c 0 t (ix3 0 r l) = X0 m c (ix3 (half t) r l) := by
  unfold half
  blk_ext! [iblk, V, V_main_arg0, e0 t]
theorem b1 (c : Dev nD) (t : Fin cfg0.N) (r : Fin 2048) (l : Fin 128) : iblk m c 1 t (ix3 0 r l) = X1 m c (ix3 (half t) r l) := by
  unfold half
  blk_ext! [iblk, V, V_main_arg1, e1 t]
theorem b2 (c : Dev nD) (t : Fin cfg0.N) (k : Fin 4096) : iblk m c 2 t (ix3 0 0 k) = X2 m c (ix3 (half t) ⟨k.val / 128, by omega⟩ ⟨k.val % 128, by omega⟩) := by
  refine Eq.trans ?_ (V1_eq m c _ k)
  unfold half
  blk_ext [iblk, e2 t]
theorem b3 (c : Dev nD) (t : Fin cfg0.N) (k : Fin 4096) (l : Fin 128) : iblk m c 3 t (ix3 0 k l) = X3 m c (ix4 (half t) ⟨k.val / 128, by omega⟩ ⟨k.val % 128, by omega⟩ l) := by
  refine Eq.trans ?_ (V3_eq m c _ k l)
  unfold half
  blk_ext [iblk, e3 t]
theorem b4 (c : Dev nD) (t : Fin cfg0.N) (l : Fin 128) : iblk m c 4 t (ix3 0 0 l) = X4 m c (ix2 (half t) l) := by
  refine Eq.trans ?_ (V5_eq m c _ l)
  unfold half
  blk_ext [iblk, e4 t]
theorem b5 (c : Dev nD) (t : Fin cfg0.N) (k : Fin 128) (l : Fin 128) : iblk m c 5 t (ix3 0 k l) = X5 m c (ix3 (half t) k l) := by
  unfold half
  blk_point [iblk, V, e5 t]
theorem b6 (c : Dev nD) (t : Fin cfg0.N) (l : Fin 128) : iblk m c 6 t (ix3 0 0 l) = X6 m c (ix2 (half t) l) := by
  refine Eq.trans ?_ (V6_eq m c _ l)
  unfold half
  blk_ext [iblk, e6 t]
theorem b7 (c : Dev nD) (t : Fin cfg0.N) (l : Fin 128) : iblk m c 7 t (ix2 0 l) = X7 m c (ix1 l) := by
  refine Eq.trans ?_ (V7_eq m c l)
  blk_ext [iblk, e7 t]

theorem state_A (c : Dev nD) (t : Fin cfg0.N) (h0 : t.val % 2 = 0) :
    outsAt0 m c t.val t.isLt = k0_pay2 (k0_pay4 (iblk m c 2 t) (iblk m c 3 t) (iblk m c 0 t) (iblk m c 1 t) (iblk m c 4 t) (iblk m c 5 t)) (k0_pay5 (iblk m c 6 t)) (iblk m c 7 t) := by
  rw [outsAt0_A m c t h0 (by omega)]
  frame_out
theorem state_B (c : Dev nD) (t : Fin cfg0.N) (h0 : t.val % 2 = 1) :
    outsAt0 m c t.val t.isLt = k0_pay3 (k0_pay4 (iblk m c 2 t) (iblk m c 3 t) (iblk m c 0 t) (iblk m c 1 t) (iblk m c 4 t) (iblk m c 5 t)) (k0_pay5 (iblk m c 6 t)) := by
  rw [outsAt0_B m c t (by omega) h0]
  frame_out

/-- A point's rows before the norm are the reference's, in the point's half. -/
theorem tile_eq (c : Dev nD) (t : Fin cfg0.N) (r : Fin 2048) (l : Fin 128) :
    tile (iblk m c 2 t) (iblk m c 3 t) (iblk m c 0 t) (iblk m c 1 t) (iblk m c 4 t) (iblk m c 5 t) (iblk m c 6 t) (ix2 r l)
      = val_main_v14 (F := Ideal) (X0 m c) (X1 m c) (X2 m c) (X3 m c) (X4 m c) (X5 m c) (X6 m c) (ix3 (half t) r l) := by
  rw [ref_apply]
  refine (tile_apply _ _ _ _ _ _ _ (pre (X0 m c) (X1 m c) (X2 m c) (X3 m c) (X4 m c) (half t) r) r (fun x => ?_) l).trans ?_
  · rw [pre, pos_apply, b0, b1, b4]
    simp only [b2, b3]
  · rw [b6]
    simp only [b5]

/-- What a point stores is the reference's result in its half. -/
theorem out_eq (c : Dev nD) (t : Fin cfg0.N) (r : Fin 2048) (l : Fin 128) :
    ∀ (s : Fin 2) (hs : half t = s), outsAt0 m c t.val t.isLt (ix3 0 r l)
      = val_main_v34 (F := Ideal) (X0 m c) (X1 m c) (X2 m c) (X3 m c) (X4 m c) (X5 m c) (X6 m c) (X7 m c) (ix3 s r l)
  | 0, hs => by
    have h0 : t.val = 0 := congrArg Fin.val hs
    rw [state_A m c t (by omega), ref_keys]
    refine (keys_apply _ _ _ r l).trans (congrArg₂ (· * ·) (congrArg (fun f => nrm f l) (funext fun x => ?_)) (b7 m c t l))
    exact (tile_eq m c t r x).trans (by rw [hs])
  | 1, hs => by
    have h0 : t.val = 1 := congrArg Fin.val hs
    rw [state_B m c t (by omega), ref_vals]
    exact (vals_apply _ _ r l).trans ((tile_eq m c t r l).trans (by rw [hs]))

theorem final (c : Dev nD) : (dats m 0 c).arrAt 8 cfg0.N
    = val_main_v34 (F := Ideal) (X0 m c) (X1 m c) (X2 m c) (X3 m c) (X4 m c) (X5 m c) (X6 m c) (X7 m c) := by
  refine (dats m 0 c).arrAt_eq_of_covers 8 _ (by decide +kernel) fun t hf y => ?_
  have ht : t.val < 2 := lt_of_lt_of_eq t.isLt N_0
  blk_simp
  rw [after0_8]
  obtain ⟨r, l, rfl⟩ : ∃ (r : Fin 2048) (l : Fin 128), y = ix3 0 r l := by
    refine ⟨y 1, y 2, ?_⟩
    funext a
    match a with
    | 0 => exact Fin.ext (show (y 0).val = 0 by have h0 : (y 0).val < 1 := (y 0).isLt; omega)
    | 1 => rfl
    | 2 => rfl
  refine (out_eq m c t r l (half t) rfl).trans (congrArg _ ?_)
  funext a
  match a with
  | 0 =>
    refine Fin.ext ?_
    show t.val = _
    blk_simp [e8 t]
    rfl
  | 1 =>
    refine Fin.ext ?_
    blk_simp [e8 t]
  | 2 =>
    refine Fin.ext ?_
    blk_simp [e8 t]

/-- The kernel's run and the reference's, from equal arguments, end with equal results. -/
theorem alg : Cert.algebraic_Kernel15Ideal_Reference15Ideal := by
  intro m g m' g' _ hm
  refine ⟨fun c => (dats m 0 c).arrAt 8 cfg0.N, Cert.Kernel15Ideal.Value.run_blocks m g, ?_⟩
  refine (θ_run _ _ _).mono (fun r h c => ⟨?_, (h c).2⟩) (Cert.Reference15Ideal.Value.run m' g')
  obtain ⟨h0, h1, h2, h3, h4, h5, h6, h7⟩ := hm c
  beta_reduce
  rw [final m c, X0, X1, X2, X3, X4, X5, X6, X7, ← h0, ← h1, ← h2, ← h3, ← h4, ← h5, ← h6, ← h7]
  exact (h c).1.trans (val_main_v34_eq _ _)

end Cert.Cmp2
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.AttnCmp
public import proofs.«01_k».proof.Proof.Mlp
public import proofs.«01_k».proof.Proof.Nmm
public import proofs.«01_k».proof.Proof.MmRes
public import proofs.«01_k».proof.Proof.Kv
public import proofs.«01_k».proof.Proof.NsaQ
public import proofs.«01_k».proof.Proof.MmRes2
public import proofs.«01_k».proof.Proof.NsaGate
public import proofs.«01_k».proof.Proof.MlpS
public import proofs.«01_k».proof.Proof.KvS
public import proofs.«01_k».proof.Proof.NmmL
public import proofs.«01_k».proof.Proof.NmmS
public import proofs.«01_k».proof.Proof.NmmLS
public import proofs.«01_k».proof.Proof.GdnGate
public import proofs.«01_k».proof.Proof.Cmp2
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   fun m ρ _ => Cert.Kernel.Gen.frame m ρ,
   fun m ρ _ => Cert.KernelIdeal.Gen.frame m ρ,
   fun m ρ _ => (θ_run Cert.ReferenceIdeal.defs _ _).mono (fun r h => ⟨fun c => (h c).2.2, sem_eq_zero_of_no_sems (by decide) r.2⟩)
      (Cert.ReferenceIdeal.Value.run (F := Ideal) m ρ),
   fun m ρ _ => Cert.Kernel2.Gen.frame m ρ,
   fun m ρ _ => Cert.Kernel2Ideal.Gen.frame m ρ,
   fun m ρ _ => (θ_run Cert.Reference2Ideal.defs _ _).mono (fun r h => ⟨fun c => (h c).2, sem_eq_zero_of_no_sems (by decide) r.2⟩)
      (Cert.Reference2Ideal.Value.run (F := Ideal) m ρ),
   fun m ρ _ => Cert.Kernel3.Gen.frame m ρ,
   fun m ρ _ => Cert.Kernel3Ideal.Gen.frame m ρ,
   fun m ρ _ => (θ_run Cert.Reference3Ideal.defs _ _).mono (fun r h => ⟨fun c => (h c).2, sem_eq_zero_of_no_sems (by decide) r.2⟩)
      (Cert.Reference3Ideal.Value.run (F := Ideal) m ρ),
   fun m ρ _ => Cert.Kernel4.Gen.frame m ρ,
   fun m ρ _ => Cert.Kernel4Ideal.Gen.frame m ρ,
   fun m ρ _ => (θ_run Cert.Reference4Ideal.defs _ _).mono (fun r h => ⟨fun c => (h c).2, sem_eq_zero_of_no_sems (by decide) r.2⟩)
      (Cert.Reference4Ideal.Value.run (F := Ideal) m ρ),
   fun m ρ _ => Cert.Kernel5.Gen.frame m ρ,
   fun m ρ _ => Cert.Kernel5Ideal.Gen.frame m ρ,
   fun m ρ _ => (θ_run Cert.Reference5Ideal.defs _ _).mono (fun r h => ⟨fun c => (h c).2, sem_eq_zero_of_no_sems (by decide) r.2⟩)
      (Cert.Reference5Ideal.Value.run (F := Ideal) m ρ),
   fun m ρ _ => Cert.Kernel6.Gen.frame m ρ,
   fun m ρ _ => Cert.Kernel6Ideal.Gen.frame m ρ,
   fun m ρ _ => (θ_run Cert.Reference6Ideal.defs _ _).mono (fun r h => ⟨fun c => (h c).2, sem_eq_zero_of_no_sems (by decide) r.2⟩)
      (Cert.Reference6Ideal.Value.run (F := Ideal) m ρ),
   fun m ρ _ => Cert.Kernel7.Gen.frame m ρ,
   fun m ρ _ => Cert.Kernel7Ideal.Gen.frame m ρ,
   fun m ρ _ => (θ_run Cert.Reference7Ideal.defs _ _).mono (fun r h => ⟨fun c => (h c).2, sem_eq_zero_of_no_sems (by decide) r.2⟩)
      (Cert.Reference7Ideal.Value.run (F := Ideal) m ρ),
   fun m ρ _ => Cert.Kernel8.Gen.frame m ρ,
   fun m ρ _ => Cert.Kernel8Ideal.Gen.frame m ρ,
   fun m ρ _ => (θ_run Cert.Reference8Ideal.defs _ _).mono (fun r h => ⟨fun c => (h c).2, sem_eq_zero_of_no_sems (by decide) r.2⟩)
      (Cert.Reference8Ideal.Value.run (F := Ideal) m ρ),
   fun m ρ _ => Cert.Kernel9.Gen.frame m ρ,
   fun m ρ _ => Cert.Kernel9Ideal.Gen.frame m ρ,
   fun m ρ _ => (θ_run Cert.Reference9Ideal.defs _ _).mono (fun r h => ⟨fun c => (h c).2, sem_eq_zero_of_no_sems (by decide) r.2⟩)
      (Cert.Reference9Ideal.Value.run (F := Ideal) m ρ),
   fun m ρ _ => Cert.Kernel10.Gen.frame m ρ,
   fun m ρ _ => Cert.Kernel10Ideal.Gen.frame m ρ,
   fun m ρ _ => (θ_run Cert.Reference10Ideal.defs _ _).mono (fun r h => ⟨fun c => (h c).2, sem_eq_zero_of_no_sems (by decide) r.2⟩)
      (Cert.Reference10Ideal.Value.run (F := Ideal) m ρ),
   fun m ρ _ => Cert.Kernel11.Gen.frame m ρ,
   fun m ρ _ => Cert.Kernel11Ideal.Gen.frame m ρ,
   fun m ρ _ => (θ_run Cert.Reference11Ideal.defs _ _).mono (fun r h => ⟨fun c => (h c).2, sem_eq_zero_of_no_sems (by decide) r.2⟩)
      (Cert.Reference11Ideal.Value.run (F := Ideal) m ρ),
   fun m ρ _ => Cert.Kernel12.Gen.frame m ρ,
   fun m ρ _ => Cert.Kernel12Ideal.Gen.frame m ρ,
   fun m ρ _ => (θ_run Cert.Reference12Ideal.defs _ _).mono (fun r h => ⟨fun c => (h c).2, sem_eq_zero_of_no_sems (by decide) r.2⟩)
      (Cert.Reference12Ideal.Value.run (F := Ideal) m ρ),
   fun m ρ _ => Cert.Kernel13.Gen.frame m ρ,
   fun m ρ _ => Cert.Kernel13Ideal.Gen.frame m ρ,
   fun m ρ _ => (θ_run Cert.Reference13Ideal.defs _ _).mono (fun r h => ⟨fun c => (h c).2, sem_eq_zero_of_no_sems (by decide) r.2⟩)
      (Cert.Reference13Ideal.Value.run (F := Ideal) m ρ),
   fun m ρ _ => Cert.Kernel14.Gen.frame m ρ,
   fun m ρ _ => Cert.Kernel14Ideal.Gen.frame m ρ,
   fun m ρ _ => (θ_run Cert.Reference14Ideal.defs _ _).mono (fun r h => ⟨fun c => (h c).2, sem_eq_zero_of_no_sems (by decide) r.2⟩)
      (Cert.Reference14Ideal.Value.run (F := Ideal) m ρ),
   fun m ρ _ => Cert.Kernel15.Gen.frame m ρ,
   fun m ρ _ => Cert.Kernel15Ideal.Gen.frame m ρ,
   fun m ρ _ => (θ_run Cert.Reference15Ideal.defs _ _).mono (fun r h => ⟨fun c => (h c).2, sem_eq_zero_of_no_sems (by decide) r.2⟩)
      (Cert.Reference15Ideal.Value.run (F := Ideal) m ρ),
   IdealRules.named_const.statement Cert.KernelIdeal.κ "mask" .f32 0xF149F2CA#32 ⊥ rfl,
   Cert.AttnCmp.alg,
   trivial,
   Cert.Mlp.alg,
   trivial,
   Cert.Nmm.alg,
   trivial,
   Cert.MmRes.alg,
   trivial,
   Cert.Kv.alg,
   trivial,
   Cert.NsaQ.alg,
   trivial,
   Cert.MmRes2.alg,
   trivial,
   Cert.NsaGate.alg,
   trivial,
   Cert.MlpS.alg,
   trivial,
   Cert.KvS.alg,
   trivial,
   Cert.NmmL.alg,
   trivial,
   Cert.NmmS.alg,
   trivial,
   Cert.NmmLS.alg,
   trivial,
   Cert.GdnGate.alg,
   trivial,
   Cert.Cmp2.alg⟩

end Cert.Proof

end
